-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v18_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v18_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x64x2030 : Shape := ⟨4, ![32, 1, 64, 2030]⟩
abbrev S128x128x64 : Shape := ⟨3, ![128, 128, 64]⟩
abbrev S32x64x2030 : Shape := ⟨3, ![32, 64, 2030]⟩
abbrev S32x129920 : Shape := ⟨2, ![32, 129920]⟩
abbrev S129920x32 : Shape := ⟨2, ![129920, 32]⟩
abbrev S_ : Shape := ⟨0, ![]⟩
abbrev S129920x128 : Shape := ⟨2, ![129920, 128]⟩
abbrev S64x128x128 : Shape := ⟨3, ![64, 128, 128]⟩
abbrev S64 : Shape := ⟨1, ![64]⟩
abbrev S64x1x1 : Shape := ⟨3, ![64, 1, 1]⟩
abbrev S1x1048576 : Shape := ⟨2, ![1, 1048576]⟩
abbrev S1048576x128 : Shape := ⟨2, ![1048576, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S1048576x32 : Shape := ⟨2, ![1048576, 32]⟩
abbrev S64x128x128x32 : Shape := ⟨4, ![64, 128, 128, 32]⟩
abbrev S32x64x128x128 : Shape := ⟨4, ![32, 64, 128, 128]⟩
abbrev S32x1x128x128 : Shape := ⟨4, ![32, 1, 128, 128]⟩
abbrev S1x128x128x32 : Shape := ⟨4, ![1, 128, 128, 32]⟩
abbrev S128x128x32 : Shape := ⟨3, ![128, 128, 32]⟩
abbrev S32x128x128 : Shape := ⟨3, ![32, 128, 128]⟩
abbrev S32 : Shape := ⟨1, ![32]⟩
abbrev S32x1x1x1 : Shape := ⟨4, ![32, 1, 1, 1]⟩

abbrev nBuf : Table → Nat
  | .hbm => 38
  | .local .tc .vmem => 9
  | .local .scVector .vmem => 2
  | _ => 0

abbrev bufTy : (tb : Table) → Fin (nBuf tb) → BufTy
  | .hbm, ⟨0, _⟩ => ⟨S32x1x64x2030, .f32⟩
  | .hbm, ⟨1, _⟩ => ⟨S128x128x64, .i32⟩
  | .hbm, ⟨2, _⟩ => ⟨S128x128x64, .f32⟩
  | .hbm, ⟨3, _⟩ => ⟨S128x128x64, .i1⟩
  | .hbm, ⟨4, _⟩ => ⟨S32x64x2030, .f32⟩
  | .hbm, ⟨5, _⟩ => ⟨S32x129920, .f32⟩
  | .hbm, ⟨6, _⟩ => ⟨S129920x32, .f32⟩
  | .hbm, ⟨7, _⟩ => ⟨S_, .i32⟩
  | .hbm, ⟨8, _⟩ => ⟨S_, .f32⟩
  | .hbm, ⟨9, _⟩ => ⟨S129920x128, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S128x128x64, .i32⟩
  | .hbm, ⟨14, _⟩ => ⟨S128x128x64, .i32⟩
  | .hbm, ⟨15, _⟩ => ⟨S_, .i32⟩
  | .hbm, ⟨16, _⟩ => ⟨S128x128x64, .i32⟩
  | .hbm, ⟨17, _⟩ => ⟨S128x128x64, .i32⟩
  | .hbm, ⟨18, _⟩ => ⟨S64x128x128, .i32⟩
  | .hbm, ⟨19, _⟩ => ⟨S64, .i32⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64x1x1, .i32⟩
  | .hbm, ⟨24, _⟩ => ⟨S64x128x128, .i32⟩
  | .hbm, ⟨25, _⟩ => ⟨S64x128x128, .i32⟩
  | .hbm, ⟨26, _⟩ => ⟨S1x1048576, .i32⟩
  | .hbm, ⟨27, _⟩ => ⟨S_, .f32⟩
  | .hbm, ⟨28, _⟩ => ⟨S_, .f32⟩
  | .hbm, ⟨29, _⟩ => ⟨S128x128x64, .f32⟩
  | .hbm, ⟨30, _⟩ => ⟨S128x128x64, .f32⟩
  | .hbm, ⟨31, _⟩ => ⟨S64x128x128, .f32⟩
  | .hbm, ⟨32, _⟩ => ⟨S1048576x128, .f32⟩
  | .hbm, ⟨33, _⟩ => ⟨S1048576x32, .f32⟩
  | .hbm, ⟨34, _⟩ => ⟨S64x128x128x32, .f32⟩
  | .hbm, ⟨35, _⟩ => ⟨S32x64x128x128, .f32⟩
  | .hbm, ⟨36, _⟩ => ⟨S32x1x128x128, .f32⟩
  | .hbm, ⟨37, _⟩ => ⟨S32x1x128x128, .f32⟩
  | .local .tc .vmem, ⟨0, _⟩ => ⟨S1x128x128x32, .f32⟩
  | .local .tc .vmem, ⟨1, _⟩ => ⟨S1x128x128x32, .f32⟩
  | .local .tc .vmem, ⟨2, _⟩ => ⟨S1x128x128, .f32⟩
  | .local .tc .vmem, ⟨3, _⟩ => ⟨S1x128x128, .f32⟩
  | .local .tc .vmem, ⟨4, _⟩ => ⟨S32x1x128x128, .f32⟩
  | .local .tc .vmem, ⟨5, _⟩ => ⟨S32x1x128x128, .f32⟩
  | .local .tc .vmem, ⟨6, _⟩ => ⟨S32x1x128x128, .f32⟩
  | .local .tc .vmem, ⟨7, _⟩ => ⟨S32x1x128x128, .f32⟩
  | .local .tc .vmem, ⟨8, _⟩ => ⟨S32x1x128x128, .f32⟩
  | .local .scVector .vmem, ⟨0, _⟩ => ⟨S2x1x128, .i32⟩
  | .local .scVector .vmem, ⟨1, _⟩ => ⟨S2x128x128, .f32⟩
  | _, _ => ⟨S32x1x64x2030, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_c_0 : Ref sig .tc := ⟨.hbm, 10, rfl⟩
abbrev main_c_1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_call2_v0 : Ref sig .tc := ⟨.hbm, 28, rfl⟩
abbrev main_call2_v1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev main_v19 : Ref sig .tc := ⟨.hbm, 37, rfl⟩
abbrev main_v3_scv : Ref sig .scVector := ⟨.hbm, 9, rfl⟩
abbrev main_v12_scv : Ref sig .scVector := ⟨.hbm, 26, rfl⟩
abbrev main_v15_scv : Ref sig .scVector := ⟨.hbm, 32, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc2_stg0_0 : Ref sig .tc := ⟨.vmem, 7, rfl⟩
abbrev cc2_stg1_0 : Ref sig .tc := ⟨.vmem, 8, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc2_sem0_0 : DmaSem sig := 12
abbrev cc2_sem1_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c256_i32_27_r0 : BitVec 32 := 256#32
  let v32_r0 : BitVec 32 := Scalar.addi c0_i32_26_r0 c256_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c256_i32_62_r0 : BitVec 32 := 256#32
  let v74_r0 : BitVec 1 := Scalar.cmpi .eq v73_r0 c256_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c255_i32_68_r0 : BitVec 32 := 255#32
  let v83_r0 : BitVec 1 := Scalar.cmpi .sge arg5_r0 c255_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c256_i32_62_r0 : BitVec 32 := 256#32
  let v74_r0 : BitVec 1 := Scalar.cmpi .eq v73_r0 c256_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c255_i32_59_r0 : BitVec 32 := 255#32
  let v70_r0 : BitVec 32 := Scalar.select v69_r0 c255_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c256_i32_62_r0 : BitVec 32 := 256#32
  let v74_r0 : BitVec 1 := Scalar.cmpi .eq v73_r0 c256_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c255_i32_55_r0 : BitVec 32 := 255#32
  let v65_r0 : BitVec 1 := Scalar.cmpi .eq arg5_r0 c255_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c255_i32_59_r0 : BitVec 32 := 255#32
  let v70_r0 : BitVec 32 := Scalar.select v69_r0 c255_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c255_i32_59_r0 : BitVec 32 := 255#32
  let v70_r0 : BitVec 32 := Scalar.select v69_r0 c255_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x1048576.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x1048576.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S1048576x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S1048576x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x1048576.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x1048576.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S1048576x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S1048576x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c255_i32_33_r0 : BitVec 32 := 255#32
  let v37_r0 : BitVec 32 := Scalar.select v36_r0 c255_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c256_i32 : BitVec 32 := 256#32
  let v4 : BitVec 32 := Scalar.muli v3 c256_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S1048576x128.size a)
theorem k0_off19_inb : ∀ (i : grid0.Coords) (v33_4_r0 : BitVec 32) (k0_hw5 : k0_chk5 i v33_4_r0), ∀ a, (k0_off19 i v33_4_r0) a + S128x128.size a ≤ S1048576x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨1, ![64], ![false]⟩

def k1_cond1 (i : grid1.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_10 : BitVec 32 := 0#32
  let v13 : BitVec 1 := Scalar.cmpi .ne v12 c0_i32_10
  v13

def k1_cond2 (i : grid1.Coords) : BitVec 1 :=
  let arg0 : BitVec 32 := BitVec.ofNat 32 (i 0).val
  let c0_i32_11 : BitVec 32 := 0#32
  let v14 : BitVec 1 := Scalar.cmpi .ne arg0 c0_i32_11
  let v15 : BitVec 32 := Scalar.extui v14
  let c0_i32_12 : BitVec 32 := 0#32
  let v16 : BitVec 1 := Scalar.cmpi .ne v15 c0_i32_12
  v16

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage1_0 : Fin 2 → Memref sig .tc .vmem S1x128x128x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x1x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S32x1x128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x1x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x1x64x2030 : Shape := ⟨4, ![32, 1, 64, 2030]⟩
abbrev S128x128x64 : Shape := ⟨3, ![128, 128, 64]⟩
abbrev S32x64x2030 : Shape := ⟨3, ![32, 64, 2030]⟩
abbrev S_ : Shape := ⟨0, ![]⟩
abbrev S64 : Shape := ⟨1, ![64]⟩
abbrev S1x1x64 : Shape := ⟨3, ![1, 1, 64]⟩
abbrev S128x128x64x1 : Shape := ⟨4, ![128, 128, 64, 1]⟩
abbrev S128x128x64x2 : Shape := ⟨4, ![128, 128, 64, 2]⟩
abbrev S32x128x128x64 : Shape := ⟨4, ![32, 128, 128, 64]⟩
abbrev S1x128x128x64 : Shape := ⟨4, ![1, 128, 128, 64]⟩
abbrev S32x128x128 : Shape := ⟨3, ![32, 128, 128]⟩
abbrev S32x1x128x128 : Shape := ⟨4, ![32, 1, 128, 128]⟩
abbrev S32x64x128x128 : Shape := ⟨4, ![32, 64, 128, 128]⟩
abbrev S32x16384 : Shape := ⟨2, ![32, 16384]⟩
abbrev S32 : Shape := ⟨1, ![32]⟩
abbrev S32x1 : Shape := ⟨2, ![32, 1]⟩

abbrev nBuf : Space → Nat
  | .hbm => 62
  | .vmem => 0
  | .smem => 0
  | _ => 0

abbrev bufTy : (tb : Table) → Fin (tcTables nBuf tb) → BufTy
  | .hbm, ⟨0, _⟩ => ⟨S32x1x64x2030, .f32⟩
  | .hbm, ⟨1, _⟩ => ⟨S128x128x64, .i32⟩
  | .hbm, ⟨2, _⟩ => ⟨S128x128x64, .f32⟩
  | .hbm, ⟨3, _⟩ => ⟨S128x128x64, .i1⟩
  | .hbm, ⟨4, _⟩ => ⟨S32x64x2030, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S128x128x64, .i32⟩
  | .hbm, ⟨9, _⟩ => ⟨S128x128x64, .i32⟩
  | .hbm, ⟨10, _⟩ => ⟨S_, .i32⟩
  | .hbm, ⟨11, _⟩ => ⟨S128x128x64, .i32⟩
  | .hbm, ⟨12, _⟩ => ⟨S128x128x64, .i32⟩
  | .hbm, ⟨13, _⟩ => ⟨S64, .i32⟩
  | .hbm, ⟨14, _⟩ => ⟨S1x1x64, .i32⟩
  | .hbm, ⟨15, _⟩ => ⟨S128x128x64, .i32⟩
  | .hbm, ⟨16, _⟩ => ⟨S_, .i32⟩
  | .hbm, ⟨17, _⟩ => ⟨S128x128x64, .i32⟩
  | .hbm, ⟨18, _⟩ => ⟨S128x128x64, .i1⟩
  | .hbm, ⟨19, _⟩ => ⟨S_, .i32⟩
  | .hbm, ⟨20, _⟩ => ⟨S128x128x64, .i32⟩
  | .hbm, ⟨21, _⟩ => ⟨S128x128x64, .i32⟩
  | .hbm, ⟨22, _⟩ => ⟨S128x128x64, .i32⟩
  | .hbm, ⟨23, _⟩ => ⟨S_, .i32⟩
  | .hbm, ⟨24, _⟩ => ⟨S128x128x64, .i32⟩
  | .hbm, ⟨25, _⟩ => ⟨S128x128x64, .i1⟩
  | .hbm, ⟨26, _⟩ => ⟨S_, .i32⟩
  | .hbm, ⟨27, _⟩ => ⟨S128x128x64, .i32⟩
  | .hbm, ⟨28, _⟩ => ⟨S128x128x64, .i32⟩
  | .hbm, ⟨29, _⟩ => ⟨S128x128x64, .i32⟩
  | .hbm, ⟨30, _⟩ => ⟨S128x128x64x1, .i32⟩
  | .hbm, ⟨31, _⟩ => ⟨S128x128x64x1, .i32⟩
  | .hbm, ⟨32, _⟩ => ⟨S128x128x64x2, .i32⟩
  | .hbm, ⟨33, _⟩ => ⟨S32x128x128x64, .f32⟩
  | .hbm, ⟨34, _⟩ => ⟨S1x128x128x64, .i1⟩
  | .hbm, ⟨35, _⟩ => ⟨S1x128x128x64, .f32⟩
  | .hbm, ⟨36, _⟩ => ⟨S32x128x128x64, .f32⟩
  | .hbm, ⟨37, _⟩ => ⟨S32x128x128x64, .f32⟩
  | .hbm, ⟨38, _⟩ => ⟨S1x128x128x64, .f32⟩
  | .hbm, ⟨39, _⟩ => ⟨S32x128x128x64, .f32⟩
  | .hbm, ⟨40, _⟩ => ⟨S32x128x128x64, .f32⟩
  | .hbm, ⟨41, _⟩ => ⟨S_, .f32⟩
  | .hbm, ⟨42, _⟩ => ⟨S32x128x128, .f32⟩
  | .hbm, ⟨43, _⟩ => ⟨S32x1x128x128, .f32⟩
  | .hbm, ⟨44, _⟩ => ⟨S32x64x128x128, .f32⟩
  | .hbm, ⟨45, _⟩ => ⟨S_, .f32⟩
  | .hbm, ⟨46, _⟩ => ⟨S_, .f32⟩
  | .hbm, ⟨47, _⟩ => ⟨S32x1x128x128, .f32⟩
  | .hbm, ⟨48, _⟩ => ⟨S32x1x128x128, .f32⟩
  | .hbm, ⟨49, _⟩ => ⟨S32x16384, .f32⟩
  | .hbm, ⟨50, _⟩ => ⟨S_, .f32⟩
  | .hbm, ⟨51, _⟩ => ⟨S32, .f32⟩
  | .hbm, ⟨52, _⟩ => ⟨S32x1, .f32⟩
  | .hbm, ⟨53, _⟩ => ⟨S_, .f32⟩
  | .hbm, ⟨54, _⟩ => ⟨S32x1, .f32⟩
  | .hbm, ⟨55, _⟩ => ⟨S32x1, .i1⟩
  | .hbm, ⟨56, _⟩ => ⟨S_, .f32⟩
  | .hbm, ⟨57, _⟩ => ⟨S32x1, .f32⟩
  | .hbm, ⟨58, _⟩ => ⟨S32x1, .f32⟩
  | .hbm, ⟨59, _⟩ => ⟨S32x16384, .f32⟩
  | .hbm, ⟨60, _⟩ => ⟨S32x16384, .f32⟩
  | .hbm, ⟨61, _⟩ => ⟨S32x1x128x128, .f32⟩
  | _, _ => ⟨S32x1x64x2030, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.Setup.lean ====
/-
  The set-up every later module shares: the program as the SparseCore launch theorem reads it, and the resource algebra
  — the launch handshakes' rounds, the TensorCore pipelines' rounds, and the counters of the tiles' own transfers.
-/
module

public import proofs.«01_k».proof.Defs
public import proofs.«01_k».proof.Proof.Gen.KernelIdeal
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type} [FloatOps F]

/-- The label signature of the program without its SparseCore calls. -/
abbrev ΛP : Labels := Pipeline.Sig Λ₀ (Fin 2) fun p => (pcfgs (F := F) p).Adm
/-- The SparseCore launch's configuration. -/
abbrev K : SparseCore.Cfg τ sig (ΛP (F := F)) 1 := sc (F := F)
/-- The body table without the SparseCore calls. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] in
theorem nSub_eq [FloatOps F] : (K (F := F)).nSub 0 = 16 := rfl
theorem nCore_eq : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, the pipelines' rounds, the transfers' counters. -/
abbrev UH : Type := URounds (GSem nD τ sig) ℕ
abbrev UP : Type := URounds (GSem nD τ sig) Unit
abbrev UU : Type := UH × (UP × Counters)

/-- The resource model of the whole certificate. -/
abbrev MM (F : FTy → Type) : Type := MT nD τ sig (HIx 1) (Elt F) ℕ UU ℕ

abbrev EH : Emb UH (MM F) := embL
def EP : Emb UP (MM F) := (Emb.inl : Emb UP (UP × Counters)).trans (embR : Emb (UP × Counters) (MM F))

instance EP_landsIn : (EP : Emb UP (MM F)).LandsIn (upEmb : UEmb _ (MM F)) := by unfold EP embR; infer_instance

end Cert.Proof

end
-- ==== Proof.Norm.lean ====
/-
  The second dense pass: the kernel that scales a block by its largest entry — the run of its body at its one grid point,
  and what the pass is proved against, over any contents the arrays may have when it is entered.
-/
module

public import proofs.«01_k».proof.Proof.Setup
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsOwned
public import Idealize.ShloMosaic.Lib.Ring

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- What the host has recorded at most: pairs of the handshakes' first two rounds. -/
abbrev low (c : Dev nD) : Set (SemLoc sig × HIx 1) :=
  {p | (K (F := F)).lev ((c : Thread nD τ), p.1) p.2 ≤ 8}

/-- A valuation of every core's host-side buffers. -/
abbrev HostVal (F : FTy → Type) [FloatOps F] : Type :=
  (c : Dev nD) → (b : Ref sig .tc) → Buf (Elt F) ((c : Thread nD τ).loc b)

namespace Norm

abbrev box : Rect S32x1x128x128 :=
  Rect.unit (s := S32x1x128x128) ![0, 0, 0, 0] S32x1x128x128.size inb_S32x1x128x128_S32x1x128x128_0_0_0_0

theorem zero4 : (![0, 0, 0, 0] : Fin 4 → Nat) = fun _ => 0 := by
  funext a; fin_cases a <;> rfl

theorem box_cover (p : Vec F S32x1x128x128 .f32) (y : S32x1x128x128.Idx) :
    ∃ pc ∈ ([⟨box, p⟩] : List (View.Piece (Elt F) S32x1x128x128 .f32)), y ∈ pc.1.set :=
  View.cover_of_tiled [⟨box, p⟩] S32x1x128x128.size (by rfl) y

theorem box_ld (x : Vec F S32x1x128x128 .f32) : View.ld x box = x := View.ld_unit_zero zero4 _ x

theorem box_canon (p : Vec F S32x1x128x128 .f32) : View.canon [(⟨box, p⟩ : View.Piece (Elt F) S32x1x128x128 .f32)] = p :=
  View.canon_unit_zero zero4 _ p

set_option maxHeartbeats 1000000 in
/-- The body on two whole buffers: the first is read, the second is left at the scaled block. -/
theorem body (c : Dev nD) (E : Set ℕ) (arg0 : Memref sig .tc .vmem S32x1x128x128 .f32) (harg0 : arg0.IsWhole)
    (arg1 : Memref sig .tc .vmem S32x1x128x128 .f32) (harg1 : arg1.IsWhole)
    (x0 : Vec F S32x1x128x128 .f32) (Kk : PUnit → sProp (MM F)) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (k2_pay1 x0)) -∗ Kk ⟨⟩))
      ⊢ wp frame (wpE (defs₀ (F := F)) Variants.none c none) E (cc2__norm_body arg0 harg0 arg1 harg1) Kk := by
  simp only [cc2__norm_body_eq_skeleton]; unfold cc2__norm_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (box_cover _)).trans ((box_canon _).trans ?_)
  exact congrArg k2_pay1 (box_ld _)

variable (W : HostVal F)

/-- Window `w`'s block at point `t`. -/
def blk (c : Dev nD) (w : Fin cfg2.W) (t : Fin cfg2.N) :
    ((cfg2.win w).xblock (cfg2.grid.coords t)).Idx → Elt F (cfg2.win w).elt :=
  ((cfg2.win w).blk t).view.read (Elt F) (W c (Pipeline.arrRef spec2 w))

/-- What the pass is proved against on core `c`. -/
def dat (c : Dev nD) : Dat τ (Elt F) (HIx 1) ℕ UU ℕ cfg2 c where
  A w := W c (Pipeline.arrRef spec2 w)
  after w t := match w with
    | ⟨0, _⟩ => blk W c 0 t
    | ⟨1, _⟩ => k2_pay1 (F := F) (blk W c 0 t)
  Φ _ := Pipeline.scopedRest (Ix := HIx 1) (Name := ℕ) (U := UU) (Lvl := ℕ) (Val := Elt F) spec2 c
  q _ := fullShare
  owed _ := 0
  recorded _ := low (F := F) c

theorem dat_A (c : Dev nD) (w : Fin cfg2.W) : (dat W c).A w = W c (Pipeline.arrRef spec2 w) := by dsimp only [dat]
theorem after_0 (c : Dev nD) (t : Fin cfg2.N) : (dat W c).after 0 t = blk W c 0 t := by dsimp only [dat]
theorem after_1 (c : Dev nD) (t : Fin cfg2.N) : (dat W c).after 1 t = k2_pay1 (F := F) (blk W c 0 t) := by dsimp only [dat]

theorem before_0 (c : Dev nD) (t : Fin cfg2.N) (d) : (dat W c).before 0 t d = blk W c 0 t :=
  ((dat W c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)

/-- The body at the pass's point, the windows one by one. -/
theorem sound (c : Dev nD) (t : Fin cfg2.N) :
    iprop((dat W c).Φ t.castSucc ∗ (dat W c).owesAt none t.castSucc
      ∗ (∃ d, owns (c : Thread nD τ) (st2_0 t) fullShare ((dat W c).before 0 t d))
      ∗ (∃ d, owns (c : Thread nD τ) (st2_1 t) fullShare ((dat W c).before 1 t d)))
    ⊢ wp frame (wpE (defs₀ (F := F)) Variants.none c none) Set.univ (bodyAt2 t) (fun _ =>
      iprop((dat W c).Φ t.succ ∗ (dat W c).owesAt none t.succ
        ∗ owns (c : Thread nD τ) (st2_0 t) fullShare ((dat W c).after 0 t)
        ∗ owns (c : Thread nD τ) (st2_1 t) fullShare ((dat W c).after 1 t))) := by
  unfold bodyAt2
  simp only [before_0]
  rw [show (dat W c).Φ t.succ = (dat W c).Φ t.castSucc from rfl,
    show (dat W c).owesAt none t.succ = (dat W c).owesAt none t.castSucc from rfl, after_0, after_1]
  iintro ⟨HΦ, Ho, ⟨%d0, H0⟩, ⟨%d1, H1⟩⟩
  iapply (body c Set.univ _ _ _ _ (blk W c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem row (t : Fin cfg2.N) : defs₀ (F := F) .tc cfg2.body (cfg2.bodyArgs t (cfg2.slots t)) = bodyAt2 t := by
  rfl

/-- The pass's body obligation. -/
theorem obligation (c : Dev nD) : BodyObligation (dat W c) (defs₀ (F := F)) Variants.none none Set.univ := fun t => by
  rw [bigSep_W2, bigSep_W2, row]
  exact triple_restated (sound W c t) rfl .rfl fun _ => .rfl

end Norm

end Cert.Proof

end
-- ==== Proof.Finish.lean ====
/-
  The first dense pass: 64 grid points, each weighting one block of gathered values into its own output block and adding it
  to a running sum — the body's run at the first point and at a later one, and what the pass is proved against.
-/
module

public import proofs.«01_k».proof.Proof.Norm
public import Idealize.ShloMosaic.Lib.Pipeline.TableIdle
public import Idealize.ShloMosaic.Lib.WordCmp

@[expose] public section

set_option maxRecDepth 16384

noncomputable section

namespace Cert.Proof.Finish

open Cert.KernelIdeal Cert.KernelIdeal.Gen
open Cert.Proof.Norm (zero4 box box_cover box_ld box_canon)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-! ## The two branches in closed form -/

abbrev isFirst (i : grid1.Coords) : Prop := k1_cond1 i = 1#1
abbrev isLater (i : grid1.Coords) : Prop := k1_cond2 i = 1#1

theorem isFirst_iff (t : Fin cfg1.N) : isFirst (grid1.coords t) ↔ t.val = 0 :=
  (fun t => by
    have ht : t.val < 64 := Nat.lt_of_lt_of_eq t.isLt N_1
    have e0 : (grid1.coords t 0).val = t.val / 1 % 64 := Pipeline.Grid.coords_val t 0 (by decide) rfl
    simp only [isFirst, k1_cond1, e0]
    word_cmp
   : ∀ t : Fin grid1.N, isFirst (grid1.coords t) ↔ t.val = 0) t

theorem isLater_iff (t : Fin cfg1.N) : isLater (grid1.coords t) ↔ 1 ≤ t.val :=
  (fun t => by
    have ht : t.val < 64 := Nat.lt_of_lt_of_eq t.isLt N_1
    have e0 : (grid1.coords t 0).val = t.val / 1 % 64 := Pipeline.Grid.coords_val t 0 (by decide) rfl
    simp only [isLater, k1_cond2, e0]
    word_cmp
   : ∀ t : Fin grid1.N, isLater (grid1.coords t) ↔ 1 ≤ t.val) t

/-- The running sum's window is stored at every point. -/
theorem live_3 : ∀ t : Fin cfg1.N, cfg1.idle 3 (grid1.coords t) = false := by decide +kernel

/-- At which positions the running sum's buffer holds nothing yet: at the first, and after the last write-back. -/
def freshTab : ℕ → Bool
  | 0 => true
  | n + 1 => (0x8000000000000000 : ℕ).testBit n
theorem freshTab_step : ∀ t : Fin cfg1.N,
    freshTab (t.val + 1) = ((cfg1.win 3).flush t || (cfg1.idle 3 (cfg1.grid.coords t) && freshTab t.val)) := by decide +kernel
theorem fresh_eq (t : Fin cfg1.N) : cfg1.fresh 3 t.val = freshTab t.val :=
  Pipeline.Cfg.fresh_tab cfg1 3 freshTab rfl freshTab_step t.val (Nat.le_of_lt t.isLt)
theorem not_fresh : ∀ t : Fin cfg1.N, isLater (grid1.coords t) → cfg1.fresh 3 t.val = false := by
  intro t; rw [fresh_eq t]; revert t; decide +kernel

/-! ## The body -/

abbrev boxV : Rect S1x128x128x32 :=
  Rect.unit (s := S1x128x128x32) ![0, 0, 0, 0] S1x128x128x32.size inb_S1x128x128x32_S1x128x128x32_0_0_0_0
abbrev boxW : Rect S1x128x128 :=
  Rect.unit (s := S1x128x128) ![0, 0, 0] S1x128x128.size inb_S1x128x128_S1x128x128_0_0_0

theorem zero3 : (![0, 0, 0] : Fin 3 → Nat) = fun _ => 0 := by
  funext a; fin_cases a <;> rfl

theorem boxV_ld (x : Vec F S1x128x128x32 .f32) : View.ld x boxV = x := View.ld_unit_zero zero4 _ x
theorem boxW_ld (x : Vec F S1x128x128 .f32) : View.ld x boxW = x := View.ld_unit_zero zero3 _ x

set_option maxHeartbeats 1000000 in
/-- The body at the first point: the running sum starts at this point's block. -/
theorem body_first (c : Dev nD) (i : grid1.Coords) (arg1 : Memref sig .tc .vmem S1x128x128x32 .f32) (harg1 : arg1.IsWhole)
    (arg2 : Memref sig .tc .vmem S1x128x128 .f32) (harg2 : arg2.IsWhole) (arg3 : Memref sig .tc .vmem S32x1x128x128 .f32)
    (harg3 : arg3.IsWhole) (arg4 : Memref sig .tc .vmem S32x1x128x128 .f32) (harg4 : arg4.IsWhole)
    (hc0 : isFirst i) (hc1 : ¬ isLater i) (x0 : Vec F S1x128x128x32 .f32) (x1 : Vec F S1x128x128 .f32)
    (E : Set ℕ) (Kk : PUnit → sProp (MM F)) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay2 x0 x1)
            ∗ owns (c : Thread nD τ) arg4 fullShare (k1_pay3 x0 x1)) -∗ Kk ⟨⟩))
      ⊢ wp frame (wpE (defs₀ (F := F)) Variants.none c none) E
          (cc1__finish_body i arg1 harg1 arg2 harg2 arg3 harg3 arg4 harg4) Kk := by
  simp only [cc1__finish_body_eq_skeleton]; unfold cc1__finish_body_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (box_cover _)).trans ((box_canon _).trans ?_)
    exact congrArg₂ k1_pay2 (boxV_ld _) (boxW_ld _)
  iexists _; isplitr
  swap; · iexact H3
  ipureintro
  refine (View.read_writes_eq_canon _ _ _ (box_cover _)).trans ((box_canon _).trans ?_)
  exact congrArg₂ k1_pay3 (boxV_ld _) (boxW_ld _)

set_option maxHeartbeats 1000000 in
/-- The body at a later point: this point's block is added to the running sum. -/
theorem body_later (c : Dev nD) (i : grid1.Coords) (arg1 : Memref sig .tc .vmem S1x128x128x32 .f32) (harg1 : arg1.IsWhole)
    (arg2 : Memref sig .tc .vmem S1x128x128 .f32) (harg2 : arg2.IsWhole) (arg3 : Memref sig .tc .vmem S32x1x128x128 .f32)
    (harg3 : arg3.IsWhole) (arg4 : Memref sig .tc .vmem S32x1x128x128 .f32) (harg4 : arg4.IsWhole)
    (hc0 : ¬ isFirst i) (hc1 : isLater i) (x0 : Vec F S1x128x128x32 .f32) (x1 : Vec F S1x128x128 .f32)
    (a : Vec F S32x1x128x128 .f32) (E : Set ℕ) (Kk : PUnit → sProp (MM F)) :
    iprop(owns (c : Thread nD τ) arg1 fullShare x0 ∗ owns (c : Thread nD τ) arg2 fullShare x1
        ∗ (∃ d, owns (c : Thread nD τ) arg3 fullShare d) ∗ owns (c : Thread nD τ) arg4 fullShare a
        ∗ (iprop(owns (c : Thread nD τ) arg1 fullShare x0 ∗ owns (c : Thread nD τ) arg2 fullShare x1
            ∗ owns (c : Thread nD τ) arg3 fullShare (k1_pay2 x0 x1)
            ∗ owns (c : Thread nD τ) arg4 fullShare (k1_pay4 x0 x1 a)) -∗ Kk ⟨⟩))
      ⊢ wp frame (wpE (defs₀ (F := F)) Variants.none c none) E
          (cc1__finish_body i arg1 harg1 arg2 harg2 arg3 harg3 arg4 harg4) Kk := by
  simp only [cc1__finish_body_eq_skeleton]; unfold cc1__finish_body_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (box_cover _)).trans ((box_canon _).trans ?_)
    exact congrArg₂ k1_pay2 (boxV_ld _) (boxW_ld _)
  iexists _; isplitr
  swap; · iexact H3
  ipureintro
  refine (View.read_writes_eq_canon _ _ _ (box_cover _)).trans ((box_canon _).trans ?_)
  exact (congrArg₂ (k1_pay4 · · _) (boxV_ld _) (boxW_ld _)).trans (congrArg (k1_pay4 _ _) (box_ld _))

/-! ## What the pass is proved against -/

variable (W : HostVal F)

/-- Window `w`'s block at point `t`. -/
def blk (c : Dev nD) (w : Fin cfg1.W) (t : Fin cfg1.N) :
    ((cfg1.win w).xblock (cfg1.grid.coords t)).Idx → Elt F (cfg1.win w).elt :=
  ((cfg1.win w).blk t).view.read (Elt F) (W c (Pipeline.arrRef spec1 w))

/-- The running sum after point `n`. -/
def acc (c : Dev nD) : (n : ℕ) → n < cfg1.N → Vec F S32x1x128x128 .f32
  | 0, h => k1_pay3 (F := F) (blk W c 0 ⟨0, h⟩) (blk W c 1 ⟨0, h⟩)
  | n + 1, h => k1_pay4 (F := F) (blk W c 0 ⟨n + 1, h⟩) (blk W c 1 ⟨n + 1, h⟩) (acc c n (Nat.lt_of_succ_lt h))

theorem acc_first (c : Dev nD) (t : Fin cfg1.N) (h : t.val = 0) :
    acc W c t.val t.isLt = k1_pay3 (F := F) (blk W c 0 t) (blk W c 1 t) := by
  obtain ⟨n, hn⟩ := t
  obtain rfl : n = 0 := h
  rfl

theorem acc_later (c : Dev nD) (t : Fin cfg1.N) (h : 1 ≤ t.val) :
    acc W c t.val t.isLt = k1_pay4 (F := F) (blk W c 0 t) (blk W c 1 t)
      (acc W c (t.val - 1) (Nat.lt_of_le_of_lt (Nat.sub_le _ _) t.isLt)) := by
  obtain ⟨n, hn⟩ := t
  cases n with
  | zero => exact absurd h (Nat.not_succ_le_zero 0)
  | succ n => rfl

/-- What the pass is proved against on core `c`. -/
def dat (c : Dev nD) : Dat τ (Elt F) (HIx 1) ℕ UU ℕ cfg1 c where
  A w := W c (Pipeline.arrRef spec1 w)
  after w t := match w with
    | ⟨0, _⟩ => blk W c 0 t
    | ⟨1, _⟩ => blk W c 1 t
    | ⟨2, _⟩ => k1_pay2 (F := F) (blk W c 0 t) (blk W c 1 t)
    | ⟨3, _⟩ => acc W c t.val t.isLt
  Φ _ := Pipeline.scopedRest (Ix := HIx 1) (Name := ℕ) (U := UU) (Lvl := ℕ) (Val := Elt F) spec1 c
  q _ := fullShare
  owed _ := 0
  recorded _ := low (F := F) c

theorem dat_A (c : Dev nD) (w : Fin cfg1.W) : (dat W c).A w = W c (Pipeline.arrRef spec1 w) := by dsimp only [dat]
theorem after_0 (c : Dev nD) (t : Fin cfg1.N) : (dat W c).after 0 t = blk W c 0 t := by dsimp only [dat]
theorem after_1 (c : Dev nD) (t : Fin cfg1.N) : (dat W c).after 1 t = blk W c 1 t := by dsimp only [dat]
theorem after_2 (c : Dev nD) (t : Fin cfg1.N) :
    (dat W c).after 2 t = k1_pay2 (F := F) (blk W c 0 t) (blk W c 1 t) := by dsimp only [dat]
theorem after_3 (c : Dev nD) (t : Fin cfg1.N) : (dat W c).after 3 t = acc W c t.val t.isLt := by dsimp only [dat]

theorem before_0 (c : Dev nD) (t : Fin cfg1.N) (d) : (dat W c).before 0 t d = blk W c 0 t :=
  ((dat W c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg1.N) (d) : (dat W c).before 1 t d = blk W c 1 t :=
  ((dat W c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)

/-- At a later point the running sum's buffer holds what the point before left. -/
theorem before_3 (c : Dev nD) (t : Fin cfg1.N) (h : 1 ≤ t.val) (d) :
    (dat W c).before 3 t d = acc W c (t.val - 1) (Nat.lt_of_le_of_lt (Nat.sub_le _ _) t.isLt) := by
  rw [Dat.before_out_traj _ 3 rfl (fun _ _ => rfl)
      (fun t _ hi _ => absurd (hi.symm.trans (live_3 t)) (by decide)) t.val t rfl d,
    if_neg (by rw [not_fresh t ((isLater_iff t).mpr h)]; exact Bool.false_ne_true)]
  dsimp only [dat]

/-- Each window's buffer at a point, and that it is whole. -/
abbrev ms0 (t : Fin cfg1.N) : Memref sig .tc .vmem S1x128x128x32 .f32 := win1_0.stage (cfg1.slots t 0)
abbrev ms1 (t : Fin cfg1.N) : Memref sig .tc .vmem S1x128x128 .f32 := win1_1.stage (cfg1.slots t 1)
abbrev ms2 (t : Fin cfg1.N) : Memref sig .tc .vmem S32x1x128x128 .f32 := win1_2.stage (cfg1.slots t 2)
abbrev ms3 (t : Fin cfg1.N) : Memref sig .tc .vmem S32x1x128x128 .f32 := win1_3.stage (cfg1.slots t 3)

set_option maxHeartbeats 1000000 in
/-- The body at any point, the windows one by one. -/
theorem sound (c : Dev nD) (t : Fin cfg1.N) :
    iprop((dat W c).Φ t.castSucc ∗ (dat W c).owesAt none t.castSucc
      ∗ (∃ d, owns (c : Thread nD τ) (ms0 t) fullShare ((dat W c).before 0 t d))
      ∗ (∃ d, owns (c : Thread nD τ) (ms1 t) fullShare ((dat W c).before 1 t d))
      ∗ (∃ d, owns (c : Thread nD τ) (ms2 t) fullShare ((dat W c).before 2 t d))
      ∗ (∃ d, owns (c : Thread nD τ) (ms3 t) fullShare ((dat W c).before 3 t d)))
    ⊢ wp frame (wpE (defs₀ (F := F)) Variants.none c none) Set.univ (bodyAt1 t) (fun _ =>
      iprop((dat W c).Φ t.succ ∗ (dat W c).owesAt none t.succ
        ∗ (dat W c).leavesExact 0 t ∗ (dat W c).leavesExact 1 t
        ∗ (dat W c).leavesExact 2 t ∗ (dat W c).leavesExact 3 t)) := by
  unfold bodyAt1
  simp only [before_0, before_1]
  rw [show (dat W c).Φ t.succ = (dat W c).Φ t.castSucc from rfl,
    show (dat W c).owesAt none t.succ = (dat W c).owesAt none t.castSucc from rfl]
  rw [show (dat W c).leavesExact 0 t = owns (c : Thread nD τ) (ms0 t) fullShare ((dat W c).after 0 t) from by
    unfold Dat.leavesExact; rfl, after_0]
  rw [show (dat W c).leavesExact 1 t = owns (c : Thread nD τ) (ms1 t) fullShare ((dat W c).after 1 t) from by
    unfold Dat.leavesExact; rfl, after_1]
  rw [show (dat W c).leavesExact 2 t = owns (c : Thread nD τ) (ms2 t) fullShare ((dat W c).after 2 t) from by
    unfold Dat.leavesExact; rfl, after_2]
  rw [show (dat W c).leavesExact 3 t = owns (c : Thread nD τ) (ms3 t) fullShare ((dat W c).after 3 t) from by
    unfold Dat.leavesExact; rw [live_3 t], after_3]
  by_cases h : t.val = 0
  · have hl : ¬ 1 ≤ t.val := by omega
    rw [acc_first W c t h]
    iintro ⟨HΦ, Ho, ⟨%d0, H0⟩, ⟨%d1, H1⟩, ⟨%d2, H2⟩, ⟨%d3, H3⟩⟩
    iapply (body_first c (grid1.coords t) _ _ _ _ _ _ _ _ ((isFirst_iff t).mpr h) (fun e => hl ((isLater_iff t).mp e))
      (blk W c 0 t) (blk W c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have hl : 1 ≤ t.val := by omega
    rw [acc_later W c t hl]
    simp only [before_3 W c t hl]
    iintro ⟨HΦ, Ho, ⟨%d0, H0⟩, ⟨%d1, H1⟩, ⟨%d2, H2⟩, ⟨%d3, H3⟩⟩
    iapply (body_later c (grid1.coords t) _ _ _ _ _ _ _ _ (fun e => h ((isFirst_iff t).mp e)) ((isLater_iff t).mpr hl)
      (blk W c 0 t) (blk W c 1 t) _ Set.univ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem row (t : Fin cfg1.N) : defs₀ (F := F) .tc cfg1.body (cfg1.bodyArgs t (cfg1.slots t)) = bodyAt1 t := by
  rfl

/-- The pass's body obligation. -/
theorem obligation (c : Dev nD) : BodyObligation (dat W c) (defs₀ (F := F)) Variants.none none Set.univ := fun t => by
  rw [bigSep_W1, bigSep_W1, row]
  exact triple_restated (sound W c t) rfl .rfl fun _ => .rfl

end Cert.Proof.Finish

end
-- ==== Proof.Regions.lean ====
/-
  The two dense passes as regions of the host's program: each entered from every unscoped buffer the SparseCore call gave
  back, at a valuation, and left with its results written over that valuation.
-/
module

public import proofs.«01_k».proof.Proof.Finish
public import proofs.«01_k».proof.Proof.Norm

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The table and the index list: the SparseCore call keeps them. -/
abbrev kept : Finset (Ref sig .tc) := {main_v3, main_v12}

theorem kept_rest1 : kept ⊆ Pipeline.restRefs sig spec1 := by
  intro b hb
  rcases Finset.mem_insert.mp hb with rfl | hb
  · exact Pipeline.mem_restRefs_of main_v3 (by decide) (by decide)
  · obtain rfl := Finset.mem_singleton.mp hb
    exact Pipeline.mem_restRefs_of main_v12 (by decide) (by decide)

theorem kept_rest2 : kept ⊆ Pipeline.restRefs sig spec2 := by
  intro b hb
  rcases Finset.mem_insert.mp hb with rfl | hb
  · exact Pipeline.mem_restRefs_of main_v3 (by decide) (by decide)
  · obtain rfl := Finset.mem_singleton.mp hb
    exact Pipeline.mem_restRefs_of main_v12 (by decide) (by decide)

/-- No pass takes a prefetched table. -/
abbrev adm (p : Fin 2) : (pcfgs (F := F) p).Adm := (cfgs p).toPCfg_adm

/-- What each pass is proved against: the first entered at `V`, the second at `V'`. -/
def pdats (V V' : HostVal F) : (p : Fin 2) → (c : Dev nD) → Dat τ (Elt F) (HIx 1) ℕ UU ℕ (Pipeline.pin (pcfgs (F := F)) adm p) c
  | ⟨0, _⟩ => fun c => Finish.dat V c
  | ⟨1, _⟩ => fun c => Norm.dat V' c

/-- The host's debts: none, and nothing recorded above the handshakes' second round. -/
abbrev quiet (c : Dev nD) : sProp (MM F) :=
  iprop(∃ W, ⌜(K (F := F)).WBelow (c : Thread nD τ) W 8⌝ ∗ owes (c : Thread nD τ) (0 : CellTallies nD τ sig (HIx 1)) W)

theorem quiet_of_within (c : Dev nD) {cfg : Cfg sig Λ₀} (d : Dat τ (Elt F) (HIx 1) ℕ UU ℕ cfg c) (t : Fin (cfg.N + 1))
    (h0 : d.owed t = 0) (hr : d.recorded t = low (F := F) c) : (d.owesAt none t : sProp (MM F)) ⊢ quiet c := by
  unfold Pipeline.Dat.owesAt Pipeline.owesWithin
  unfold Pipeline.Dat.bound
  rw [h0, hr]
  iintro ⟨%W, %hW, HO⟩
  iexists W
  isplitr
  · ipureintro
    intro p hp
    rcases hW hp with h | h
    · exact h
    · obtain ⟨w, s, rfl⟩ := h
      exact Nat.zero_le _
  iexact HO

theorem within_of_quiet (c : Dev nD) {cfg : Cfg sig Λ₀} (d : Dat τ (Elt F) (HIx 1) ℕ UU ℕ cfg c) (t : Fin (cfg.N + 1))
    (h0 : d.owed t = 0) (hr : d.recorded t = low (F := F) c) : quiet c ⊢ (d.owesAt none t : sProp (MM F)) := by
  unfold Pipeline.Dat.owesAt Pipeline.owesWithin
  unfold Pipeline.Dat.bound
  rw [h0, hr]
  iintro ⟨%W, %hW, HO⟩
  iexists W
  isplitr
  · ipureintro
    exact fun p hp => Or.inl (hW p hp)
  iexact HO

variable (V V' Vp : HostVal F)

set_option backward.isDefEq.respectTransparency.types false in
/-- The first pass. -/
def region0 (h0 : ∀ c, Vp c main_v18_0 = (Finish.dat V c).arrAt 2 cfg1.N) (h1 : ∀ c, Vp c main_v18_1 = (Finish.dat V c).arrAt 3 cfg1.N)
    (hne : ∀ c (b : Ref sig .tc), b ≠ main_v18_0 → b ≠ main_v18_1 → Vp c b = V c b) :
    Pipeline.RegionSeg (pcfgs (F := F)) adm (pdats V V') none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (Finish.obligation V c).loose
  hwaits := Pipeline.hwaits_of_owed_zero _ _ _ _ (K (F := F)).L (K (F := F)).lev 0 fun _ _ => rfl
  pre c := iprop(Pipeline.unscopedBufsBut kept c (V c) ∗ quiet c)
  post c := iprop(Pipeline.unscopedBufsBut kept c (Vp c) ∗ quiet c)
  X _ := BI.emp
  Y _ := BI.emp
  Z c := bigSep (Pipeline.restRefs sig spec1 \ kept) fun b => ((c : Thread nD τ).loc b) ↦{fullShare} V c b
  hentry c := by
    rw [Pipeline.ownSems0_none]
    have hsplit := Pipeline.arrays_of_unscopedBufsBut (p := 0) (pcfgs (F := F)) adm (pdats V V') (launch1).win (launch1).arr_whole
      kept kept_rest1 c ((pdats V V' 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (within_of_quiet c (pdats V V' 0 c) 0 rfl rfl); iexact HO
    isplitr; · iempintro
    iexact Hrest
  hin c := by
    rw [show (pdats V V' 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V V' 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufsBut_of_arrays (p := 0) (pcfgs (F := F)) adm (pdats V V') (launch1).win (launch1).arr_whole
      kept kept_rest1 c ((pdats V V' 0 c).share_full fun _ => rfl) (V c) (Vp c) ((pdats V V' 0 c).arrAt · cfg1.N)
      (fun w => by
        fin_cases w
        · exact ((pdats V V' 0 c).arrAt_in 0 rfl _).trans (hne c main_v17 (by decide) (by decide)).symm
        · exact ((pdats V V' 0 c).arrAt_in 1 rfl _).trans (hne c main_v14 (by decide) (by decide)).symm
        · exact (h0 c).symm
        · exact (h1 c).symm)
      (fun b hb => hne c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    iapply (quiet_of_within c (pdats V V' 0 c) (Fin.last _) rfl rfl); iexact HO

set_option backward.isDefEq.respectTransparency.types false in
/-- The second pass. -/
def region1 (h0 : ∀ c, Vp c main_v19 = (Norm.dat V' c).arrAt 1 cfg2.N)
    (hne : ∀ c (b : Ref sig .tc), b ≠ main_v19 → Vp c b = V' c b) :
    Pipeline.RegionSeg (pcfgs (F := F)) adm (pdats V V') none defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (Norm.obligation V' c).loose
  hwaits := Pipeline.hwaits_of_owed_zero _ _ _ _ (K (F := F)).L (K (F := F)).lev 1 fun _ _ => rfl
  pre c := iprop(Pipeline.unscopedBufsBut kept c (V' c) ∗ quiet c)
  post c := iprop(Pipeline.unscopedBufsBut kept c (Vp c) ∗ quiet c)
  X _ := BI.emp
  Y _ := BI.emp
  Z c := bigSep (Pipeline.restRefs sig spec2 \ kept) fun b => ((c : Thread nD τ).loc b) ↦{fullShare} V' c b
  hentry c := by
    rw [Pipeline.ownSems0_none]
    have hsplit := Pipeline.arrays_of_unscopedBufsBut (p := 1) (pcfgs (F := F)) adm (pdats V V') (launch2).win (launch2).arr_whole
      kept kept_rest2 c ((pdats V V' 1 c).share_full fun _ => rfl) (V' c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (within_of_quiet c (pdats V V' 1 c) 0 rfl rfl); iexact HO
    isplitr; · iempintro
    iexact Hrest
  hin c := by
    rw [show (pdats V V' 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V V' 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufsBut_of_arrays (p := 1) (pcfgs (F := F)) adm (pdats V V') (launch2).win (launch2).arr_whole
      kept kept_rest2 c ((pdats V V' 1 c).share_full fun _ => rfl) (V' c) (Vp c) ((pdats V V' 1 c).arrAt · cfg2.N)
      (fun w => by
        fin_cases w
        · exact ((pdats V V' 1 c).arrAt_in 0 rfl _).trans (hne c main_v18_1 (by decide)).symm
        · exact (h0 c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    iapply (quiet_of_within c (pdats V V' 1 c) (Fin.last _) rfl rfl); iexact HO

end Cert.Proof

end
-- ==== Proof.Words.lean ====
/-
  The index arithmetic of the pipelined gather, decided over every tile and every trip.

  Tile `(i 0, i 1)` handles 256 consecutive blocks of 128 rows, from block `baseBlk i` on. The pipeline's loop carries
  five counters; `carry n` is what they hold before trip `n`. Each condition and offset the trip computes from them is
  stated here in closed form.
-/
module

public import proofs.«01_k».proof.Defs
public import proofs.«01_k».proof.Proof.Gen.KernelIdeal

@[expose] public section

namespace Cert.Proof.Tile

open Cert.KernelIdeal Cert.KernelIdeal.Gen
open Idealize.ShloMosaic Idealize.SL.Sem

/-- The first block of tile `i`. -/
def baseBlk (i : grid0.Coords) : Nat := ((i 1).val + 16 * (i 0).val) * 256

/-- The five counters before trip `n`. -/
def carry (n : Nat) : BitVec 32 × BitVec 32 × BitVec 32 × BitVec 32 × BitVec 32 :=
  (BitVec.ofNat 32 (min (n + 1) 256), BitVec.ofNat 32 n, BitVec.ofNat 32 n, BitVec.ofNat 32 (n - 1), BitVec.ofNat 32 (n % 256))

theorem trips_eq : k0_t1_loop.trips = 256 := by decide

theorem cond1_iff : ∀ (i : grid0.Coords) (t : Fin k0_t1_loop.trips), k0_cond1 i t (BitVec.ofNat 32 (t.val % 256)) = 1#1 ↔ t.val + 1 < 256 := by
  decide +kernel
theorem cond2_true : ∀ (i : grid0.Coords) (t : Fin k0_t1_loop.trips), k0_cond2 i t (BitVec.ofNat 32 (t.val % 256)) = 1#1 := by
  decide +kernel
theorem cond5_true : ∀ (i : grid0.Coords) (t : Fin k0_t1_loop.trips), k0_cond5 i t (BitVec.ofNat 32 (t.val % 256)) = 1#1 := by
  decide +kernel
theorem cond7_iff : ∀ (i : grid0.Coords) (t : Fin k0_t1_loop.trips), k0_cond7 i t (BitVec.ofNat 32 (t.val % 256)) = 1#1 ↔ 0 < t.val := by
  decide +kernel

theorem off5_val : ∀ (i : grid0.Coords) (t : Fin k0_t1_loop.trips), t.val + 1 < 256 →
    k0_off5 i (BitVec.ofNat 32 (t.val % 256)) = ![0, 128 * (baseBlk i + (t.val + 1))] := by decide +kernel
theorem off8_val : ∀ (i : grid0.Coords) (t : Fin k0_t1_loop.trips),
    k0_off8 i (BitVec.ofNat 32 (t.val % 256)) = ![0, 128 * (baseBlk i + t.val)] := by decide +kernel
theorem off13_val : ∀ (i : grid0.Coords) (t : Fin k0_t1_loop.trips),
    k0_off13 i (BitVec.ofNat 32 (t.val % 256)) = ![128 * (baseBlk i + t.val), 0] := by decide +kernel
theorem off16_val : ∀ (i : grid0.Coords) (t : Fin k0_t1_loop.trips), 0 < t.val →
    k0_off16 i (BitVec.ofNat 32 (t.val % 256)) = ![128 * (baseBlk i + (t.val - 1)), 0] := by decide +kernel
theorem off19_val : ∀ (i : grid0.Coords), k0_off19 i (BitVec.ofNat 32 (256 % 256)) = ![128 * (baseBlk i + 255), 0] := by decide +kernel
theorem off2_val : ∀ (i : grid0.Coords), k0_off2 i = ![0, 128 * (baseBlk i + 0)] := by decide +kernel

theorem off4_val : ∀ (t : Fin k0_t1_loop.trips), t.val + 1 < 256 → k0_off4 (BitVec.ofNat 32 (min (t.val + 1) 256)) = ![(t.val + 1) % 2, 0, 0] := by
  decide +kernel
theorem off6_val : ∀ (t : Fin k0_t1_loop.trips), t.val + 1 < 256 → k0_off6 (BitVec.ofNat 32 (min (t.val + 1) 256)) = ![(t.val + 1) % 2] := by
  decide +kernel
theorem off7_val : ∀ (t : Fin k0_t1_loop.trips), k0_off7 (BitVec.ofNat 32 t.val) = ![t.val % 2, 0, 0] := by decide +kernel
theorem off9_val : ∀ (t : Fin k0_t1_loop.trips), k0_off9 (BitVec.ofNat 32 t.val) = ![t.val % 2] := by decide +kernel
theorem off10_val : ∀ (t : Fin k0_t1_loop.trips), k0_off10 (BitVec.ofNat 32 t.val) = ![t.val % 2, 0, 0] := by decide +kernel
theorem off11_val : ∀ (t : Fin k0_t1_loop.trips), k0_off11 (BitVec.ofNat 32 t.val) = ![t.val % 2, 0, 0] := by decide +kernel
theorem off12_val : ∀ (t : Fin k0_t1_loop.trips), k0_off12 (BitVec.ofNat 32 t.val) = ![t.val % 2, 0, 0] := by decide +kernel
theorem off14_val : ∀ (t : Fin k0_t1_loop.trips), k0_off14 (BitVec.ofNat 32 t.val) = ![t.val % 2] := by decide +kernel
theorem off15_val : ∀ (t : Fin k0_t1_loop.trips), 0 < t.val → k0_off15 (BitVec.ofNat 32 (t.val - 1)) = ![(t.val + 1) % 2, 0, 0] := by
  decide +kernel
theorem off17_val : ∀ (t : Fin k0_t1_loop.trips), 0 < t.val → k0_off17 (BitVec.ofNat 32 (t.val - 1)) = ![(t.val + 1) % 2] := by
  decide +kernel
theorem off20_val : k0_off20 (BitVec.ofNat 32 (256 - 1)) = ![1] := by decide +kernel
theorem off21_val : k0_off21 (BitVec.ofNat 32 (256 - 1)) = ![1, 0, 0] := by decide +kernel

theorem base_lt : ∀ i : grid0.Coords, baseBlk i + 256 ≤ 8192 := by decide +kernel

theorem chk3_ok (t : Fin k0_t1_loop.trips) : k0_chk3 (BitVec.ofNat 32 t.val) := by
  revert t; decide +kernel
theorem chk2_ok (t : Fin k0_t1_loop.trips) : k0_chk2 (BitVec.ofNat 32 t.val) := by
  revert t; decide +kernel
theorem chk1_ok (i : grid0.Coords) (t : Fin k0_t1_loop.trips) :
    k0_chk1 i t (BitVec.ofNat 32 (min (t.val + 1) 256)) (BitVec.ofNat 32 t.val) (BitVec.ofNat 32 t.val) (BitVec.ofNat 32 (t.val - 1))
      (BitVec.ofNat 32 (t.val % 256)) := by
  have hb := base_lt i
  have ht : t.val < 256 := trips_eq ▸ t.isLt
  unfold k0_chk1
  rw [off7_val, off8_val, off9_val, off12_val, off13_val, off14_val]
  refine ⟨fun h => ?_, fun h => ?_, fun h => ?_, fun _ => ?_, fun _ => ?_, fun _ => ?_, fun _ => ?_, fun _ => ?_, fun _ => ?_, fun h => ?_, fun h => ?_, fun h => ?_⟩
  · rw [off4_val t ((cond1_iff i t).mp h)]; simp [Fin.forall_fin_succ, S1x1x128, S2x1x128]; omega
  · rw [off5_val i t ((cond1_iff i t).mp h)]; have := (cond1_iff i t).mp h; simp [Fin.forall_fin_succ, S1x128, S1x1048576]; omega
  · rw [off6_val t ((cond1_iff i t).mp h)]; simp [S1, S2]; omega
  · simp [Fin.forall_fin_succ, S1x1x128, S2x1x128]; omega
  · simp [Fin.forall_fin_succ, S1x128, S1x1048576]; omega
  · simp [S1, S2]; omega
  · simp [Fin.forall_fin_succ, S1x128x128, S2x128x128]; omega
  · simp [Fin.forall_fin_succ, S128x128, S1048576x128]; omega
  · simp [S1, S2]; omega
  · rw [off15_val t ((cond7_iff i t).mp h)]; simp [Fin.forall_fin_succ, S1x128x128, S2x128x128]; omega
  · rw [off16_val i t ((cond7_iff i t).mp h)]; simp [Fin.forall_fin_succ, S128x128, S1048576x128]; omega
  · rw [off17_val t ((cond7_iff i t).mp h)]; simp [S1, S2]; omega
theorem chk5_ok (i : grid0.Coords) : k0_chk5 i (BitVec.ofNat 32 (256 % 256)) := by
  have hb := base_lt i
  unfold k0_chk5; rw [off19_val]; simp [Fin.forall_fin_succ, S128x128, S1048576x128]; omega
theorem chk4_ok : k0_chk4 (BitVec.ofNat 32 (256 - 1)) := by decide +kernel

end Cert.Proof.Tile
-- ==== Proof.Geometry.lean ====
/-
  The views the tile addresses, named by block number and slot, with the elements each covers; the rows the call writes,
  as one function of the table and the index list; and what the three transfers of a trip move, in those words.
-/
module

public import proofs.«01_k».proof.Proof.Setup
public import proofs.«01_k».proof.Proof.Words
public import Idealize.ShloMosaic.Lib.ValueLayout

@[expose] public section

noncomputable section

namespace Cert.Proof.Tile

open Cert.KernelIdeal Cert.KernelIdeal.Gen Cert.Proof
open Idealize.ShloMosaic Idealize.ShloMosaic.ValueIdx
open Idealize.SL Idealize.SL.Sem

variable {F : FTy → Type}

/-! ## The memrefs -/

abbrev tV : Memref sig .scVector .hbm S129920x128 .f32 := Memref.whole main_v3_scv
abbrev xV : Memref sig .scVector .hbm S1x1048576 .i32 := Memref.whole main_v12_scv
abbrev oV : Memref sig .scVector .hbm S1048576x128 .f32 := Memref.whole main_v15_scv
abbrev isV : Memref sig .scVector .vmem S2x1x128 .i32 := Memref.whole cc0_scoped0
abbrev rsV : Memref sig .scVector .vmem S2x128x128 .f32 := Memref.whole cc0_scoped2

theorem blk_lt {b : Nat} (hb : b < 8192) {r : Nat} (hr : r < 128) : 128 * b + r < 1048576 := by omega

theorem iBlk_inb {b : Nat} (hb : b < 8192) : ∀ a, (![0, 128 * b] : Fin 2 → Nat) a + S1x128.size a ≤ S1x1048576.size a := by
  simp [Fin.forall_fin_succ, S1x128, S1x1048576]; omega
theorem oBlk_inb {b : Nat} (hb : b < 8192) : ∀ a, (![128 * b, 0] : Fin 2 → Nat) a + S128x128.size a ≤ S1048576x128.size a := by
  simp [Fin.forall_fin_succ, S128x128, S1048576x128]; omega
theorem iSlot_inb {p : Nat} (hp : p < 2) : ∀ a, (![p, 0, 0] : Fin 3 → Nat) a + S1x1x128.size a ≤ S2x1x128.size a := by
  simp [Fin.forall_fin_succ, S1x1x128, S2x1x128]; omega
theorem rSlot_inb {p : Nat} (hp : p < 2) : ∀ a, (![p, 0, 0] : Fin 3 → Nat) a + S1x128x128.size a ≤ S2x128x128.size a := by
  simp [Fin.forall_fin_succ, S1x128x128, S2x128x128]; omega
theorem sem_inb {p : Nat} (hp : p < 2) : ∀ a, (![p] : Fin 1 → Nat) a + S1.size a ≤ S2.size a := by
  simp [S1, S2]; omega

/-- Block `b` of the index list, of the result. -/
def iBlk (b : Nat) (hb : b < 8192) : Memref sig .scVector .hbm S1x128 .i32 :=
  xV.slice (Rect.unit (s := S1x1048576) ![0, 128 * b] S1x128.size (iBlk_inb hb)) (fun _ => rfl)
def oBlk (b : Nat) (hb : b < 8192) : Memref sig .scVector .hbm S128x128 .f32 :=
  oV.slice (Rect.unit (s := S1048576x128) ![128 * b, 0] S128x128.size (oBlk_inb hb)) (fun _ => rfl)
/-- Slot `p` of the index buffer, of the row buffer. -/
def iSlot (p : Nat) (hp : p < 2) : Memref sig .scVector .vmem S1x128 .i32 :=
  (isV.slice (Rect.unit (s := S2x1x128) ![p, 0, 0] S1x1x128.size (iSlot_inb hp)) (fun _ => rfl)).squeeze S1x128 squeezes_S1x1x128_S1x128
def rSlot (p : Nat) (hp : p < 2) : Memref sig .scVector .vmem S128x128 .f32 :=
  (rsV.slice (Rect.unit (s := S2x128x128) ![p, 0, 0] S1x128x128.size (rSlot_inb hp)) (fun _ => rfl)).squeeze S128x128 squeezes_S1x128x128_S128x128
/-- Slot `p` of the index buffer as the offset list the gather reads. -/
def offs (p : Nat) (hp : p < 2) : Memref sig .scVector .vmem S128 .i32 :=
  ((iSlot p hp).slice (Rect.unit (s := S1x128) ![0, 0] S1x128.size inb_S1x128_S1x128_0_0) (fun _ => rfl)).squeeze S128 squeezes_S1x128_S128
/-- The whole table as the gather's source. -/
def tAll : Memref sig .scVector .hbm S129920x128 .f32 :=
  tV.slice (Rect.unit (s := S129920x128) ![0, 0] S129920x128.size inb_S129920x128_S129920x128_0_0) (fun _ => rfl)
/-- The slots' semaphores. -/
def iSem (p : Nat) (hp : p < 2) : DmaSem sig := ((cc0_scoped1.slice (Rect.unit (s := S2) ![p] S1.size (sem_inb hp))).squeeze S_ squeezes_S1_S_).sem
def oSem (p : Nat) (hp : p < 2) : DmaSem sig := ((cc0_scoped3.slice (Rect.unit (s := S2) ![p] S1.size (sem_inb hp))).squeeze S_ squeezes_S1_S_).sem
abbrev gSem : DmaSem sig := cc0_scoped4.sem

theorem iBlk_eq {b : Nat} (hb : b < 8192) {off : Fin 2 → Nat} (h : off = ![0, 128 * b]) (inb) :
    xV.slice (Rect.unit (s := S1x1048576) off S1x128.size inb) (fun _ => rfl) = iBlk b hb := by subst h; rfl
theorem oBlk_eq {b : Nat} (hb : b < 8192) {off : Fin 2 → Nat} (h : off = ![128 * b, 0]) (inb) :
    oV.slice (Rect.unit (s := S1048576x128) off S128x128.size inb) (fun _ => rfl) = oBlk b hb := by subst h; rfl
theorem iSlot_eq {p : Nat} (hp : p < 2) {off : Fin 3 → Nat} (h : off = ![p, 0, 0]) (inb) :
    (isV.slice (Rect.unit (s := S2x1x128) off S1x1x128.size inb) (fun _ => rfl)).squeeze S1x128 squeezes_S1x1x128_S1x128 = iSlot p hp := by
  subst h; rfl
theorem rSlot_eq {p : Nat} (hp : p < 2) {off : Fin 3 → Nat} (h : off = ![p, 0, 0]) (inb) :
    (rsV.slice (Rect.unit (s := S2x128x128) off S1x128x128.size inb) (fun _ => rfl)).squeeze S128x128 squeezes_S1x128x128_S128x128 = rSlot p hp := by
  subst h; rfl
theorem offs_eq {p : Nat} (hp : p < 2) {off : Fin 3 → Nat} (h : off = ![p, 0, 0]) (inb) :
    (((isV.slice (Rect.unit (s := S2x1x128) off S1x1x128.size inb) (fun _ => rfl)).squeeze S1x128 squeezes_S1x1x128_S1x128).slice
      (Rect.unit (s := S1x128) ![0, 0] S1x128.size inb_S1x128_S1x128_0_0) (fun _ => rfl)).squeeze S128 squeezes_S1x128_S128 = offs p hp := by
  subst h; rfl
theorem iSem_eq {p : Nat} (hp : p < 2) {off : Fin 1 → Nat} (h : off = ![p]) (inb) :
    ((cc0_scoped1.slice (Rect.unit (s := S2) off S1.size inb)).squeeze S_ squeezes_S1_S_).sem = iSem p hp := by subst h; rfl
theorem oSem_eq {p : Nat} (hp : p < 2) {off : Fin 1 → Nat} (h : off = ![p]) (inb) :
    ((cc0_scoped3.slice (Rect.unit (s := S2) off S1.size inb)).squeeze S_ squeezes_S1_S_).sem = oSem p hp := by subst h; rfl

/-! ## Where the views' elements lie -/

theorem oBlk_emb (b : Nat) (hb : b < 8192) (x : S128x128.Idx) :
    ((oBlk b hb).view.emb x : S1048576x128.Idx) = (ix2 ⟨128 * b + (x 0).val, blk_lt hb (x 0).isLt⟩ (x 1) : S1048576x128.Idx) := by
  funext (a : Fin 2); apply Fin.ext
  match a with
  | 0 => exact (Rect.emb_apply _ _ _).trans (by simp [Rect.unit, ix2])
  | 1 => exact (Rect.emb_apply _ _ _).trans (by simp [Rect.unit, ix2])
theorem iBlk_emb (b : Nat) (hb : b < 8192) (x : S1x128.Idx) :
    ((iBlk b hb).view.emb x : S1x1048576.Idx) = (ix2 (0 : Fin 1) ⟨128 * b + (x 1).val, blk_lt hb (x 1).isLt⟩ : S1x1048576.Idx) := by
  funext (a : Fin 2); apply Fin.ext
  match a with
  | 0 => exact (Rect.emb_apply _ _ _).trans (by simp [Rect.unit, ix2]; exact Nat.lt_one_iff.mp (x 0).isLt)
  | 1 => exact (Rect.emb_apply _ _ _).trans (by simp [Rect.unit, ix2])
theorem tAll_emb (x : S129920x128.Idx) : (tAll.view.emb x : S129920x128.Idx) = x := by
  funext (a : Fin 2); apply Fin.ext
  match a with
  | 0 => exact (Rect.emb_apply _ _ _).trans (by simp [Rect.unit])
  | 1 => exact (Rect.emb_apply _ _ _).trans (by simp [Rect.unit])
theorem offs_emb (p : Nat) (hp : p < 2) (x : S128.Idx) : (offs p hp).view.emb x = (iSlot p hp).view.emb (ix2 (0 : Fin 1) (x 0) : S1x128.Idx) := by
  have h1 : Shape.reshapeEquiv (squeezes_S1x128_S128 : S1x128.Squeezes S128).numel_eq x = (ix2 (0 : Fin 1) (x 0) : S1x128.Idx) := by
    refine (Shape.reshapeEquiv_cons_one (n := 1) (d := ![128]) _ x).trans ?_
    funext a
    match a with
    | 0 => rfl
    | 1 => rfl
  show (iSlot p hp).view.emb ((Rect.unit (s := S1x128) ![0, 0] S1x128.size inb_S1x128_S1x128_0_0).emb
    (Shape.reshapeEquiv (squeezes_S1x128_S128 : S1x128.Squeezes S128).numel_eq x)) = _
  rw [h1]; congr 1
  funext a; apply Fin.ext
  match a with
  | 0 => exact (Rect.emb_apply _ _ _).trans (by simp [Rect.unit])
  | 1 => exact (Rect.emb_apply _ _ _).trans (by simp [Rect.unit])

/-- Blocks `a` to `b`: the rows of the result, the positions of the index list. -/
def oR (a b : Nat) : Finset S1048576x128.Idx := Finset.univ.filter fun x => 128 * a ≤ (x 0).val ∧ (x 0).val < 128 * b
def iR (a b : Nat) : Finset S1x1048576.Idx := Finset.univ.filter fun x => 128 * a ≤ (x 1).val ∧ (x 1).val < 128 * b

theorem mem_oR {a b : Nat} {x : S1048576x128.Idx} : x ∈ oR a b ↔ 128 * a ≤ (x 0).val ∧ (x 0).val < 128 * b := by simp [oR]
theorem mem_iR {a b : Nat} {x : S1x1048576.Idx} : x ∈ iR a b ↔ 128 * a ≤ (x 1).val ∧ (x 1).val < 128 * b := by simp [iR]

theorem set_oBlk (b : Nat) (hb : b < 8192) : (oBlk b hb).view.set = oR b (b + 1) := by
  have h : (oBlk b hb).view.set = (Rect.unit (s := S1048576x128) ![128 * b, 0] S128x128.size (oBlk_inb hb)).set := View.set_slice_whole _ _
  rw [h]; ext x
  rw [Rect.mem_set_unit, mem_oR]
  have : (x 1).val < 128 := (x 1).isLt
  simp only [Fin.forall_fin_two]
  simp [S128x128]; omega
theorem set_iBlk (b : Nat) (hb : b < 8192) : (iBlk b hb).view.set = iR b (b + 1) := by
  have h : (iBlk b hb).view.set = (Rect.unit (s := S1x1048576) ![0, 128 * b] S1x128.size (iBlk_inb hb)).set := View.set_slice_whole _ _
  rw [h]; ext x
  rw [Rect.mem_set_unit, mem_iR]
  have : (x 0).val < 1 := (x 0).isLt
  simp only [Fin.forall_fin_two]
  simp [S1x128]; omega
theorem set_tAll : tAll.view.set = Finset.univ := by
  refine Finset.eq_univ_iff_forall.mpr fun x => ?_
  rw [← tAll_emb x]; exact View.emb_mem_set _ _

/-- The elements of slot `p`. -/
def iS (p : Nat) : Finset S2x1x128.Idx := Finset.univ.filter fun x => (x 0).val = p
def rS (p : Nat) : Finset S2x128x128.Idx := Finset.univ.filter fun x => (x 0).val = p
theorem set_iSlot (p : Nat) (hp : p < 2) : (iSlot p hp).view.set = iS p := by
  have h : (iSlot p hp).view.set = (Rect.unit (s := S2x1x128) ![p, 0, 0] S1x1x128.size (iSlot_inb hp)).set :=
    (View.set_reshape _ _).trans (View.set_slice_whole _ _)
  rw [h]; ext x
  rw [Rect.mem_set_unit]
  have h1 : (x 1).val < 1 := (x 1).isLt
  have h2 : (x 2).val < 128 := (x 2).isLt
  simp only [Fin.forall_fin_succ]
  simp [S1x1x128, iS]; omega
theorem set_rSlot (p : Nat) (hp : p < 2) : (rSlot p hp).view.set = rS p := by
  have h : (rSlot p hp).view.set = (Rect.unit (s := S2x128x128) ![p, 0, 0] S1x128x128.size (rSlot_inb hp)).set :=
    (View.set_reshape _ _).trans (View.set_slice_whole _ _)
  rw [h]; ext x
  rw [Rect.mem_set_unit]
  have h1 : (x 1).val < 128 := (x 1).isLt
  have h2 : (x 2).val < 128 := (x 2).isLt
  simp only [Fin.forall_fin_succ]
  simp [S1x128x128, rS]; omega
theorem set_offs (p : Nat) (hp : p < 2) : ((offs p hp).view.set : Finset S2x1x128.Idx) = (iSlot p hp).view.set :=
  (View.set_reshape _ _).trans <| by
    have h : (Rect.unit (s := S1x128) ![0, 0] S1x128.size inb_S1x128_S1x128_0_0).set = Finset.univ := by
      ext x
      have h0 : (x 0).val < 1 := (x 0).isLt
      have h1 : (x 1).val < 128 := (x 1).isLt
      rw [Rect.mem_set_unit]; simp only [Fin.forall_fin_two]; simp [S1x128]; omega
    show (((iSlot p hp).view.slice (Rect.unit (s := S1x128) ![0, 0] S1x128.size inb_S1x128_S1x128_0_0)).set : Finset S2x1x128.Idx) = _
    exact (View.set_slice _ _).trans (congrArg (Finset.map (iSlot p hp).view.emb) h)
theorem iS_union : iS 0 ∪ iS 1 = Finset.univ := by
  ext x; have : (x 0).val < 2 := (x 0).isLt; simp [iS]; omega
theorem iS_disj : Disjoint (iS 0) (iS 1) := by
  rw [Finset.disjoint_left]; intro x; simp [iS]; omega
theorem rS_union : rS 0 ∪ rS 1 = Finset.univ := by
  ext x; have : (x 0).val < 2 := (x 0).isLt; simp [rS]; omega
theorem rS_disj : Disjoint (rS 0) (rS 1) := by
  rw [Finset.disjoint_left]; intro x; simp [rS]; omega

theorem oR_union {a b c : Nat} (h : a ≤ b) (h' : b ≤ c) : oR a b ∪ oR b c = oR a c := by
  ext x; rw [Finset.mem_union, mem_oR, mem_oR, mem_oR]; omega
theorem oR_disj (a b c : Nat) : Disjoint (oR a b) (oR b c) := by
  rw [Finset.disjoint_left]; intro x; rw [mem_oR, mem_oR]; omega
theorem oR_empty (a : Nat) : oR a a = ∅ := by
  ext x; rw [mem_oR]; simp
theorem iR_union {a b c : Nat} (h : a ≤ b) (h' : b ≤ c) : iR a b ∪ iR b c = iR a c := by
  ext x; rw [Finset.mem_union, mem_iR, mem_iR, mem_iR]; omega
theorem iR_disj (a b c : Nat) : Disjoint (iR a b) (iR b c) := by
  rw [Finset.disjoint_left]; intro x; rw [mem_iR, mem_iR]; omega

/-! ## The rows the call writes -/

/-- Row `r` of the result is row `X[0, r]` of the table. -/
def Gout (Tb : S129920x128.Idx → Elt F .f32) (X : S1x1048576.Idx → Elt F .i32) : S1048576x128.Idx → Elt F .f32 :=
  fun x => Tb (ix2 ⟨(X (ix2 (0 : Fin 1) (x 0)) : BitVec 32).toNat % 129920, Nat.mod_lt _ (by norm_num)⟩ (x 1))

/-- The block of indices an index slot holds. -/
def blkIdx (X : S1x1048576.Idx → Elt F .i32) (b : Nat) (hb : b < 8192) : S1x128.Idx → Elt F .i32 :=
  fun x => X (ix2 (0 : Fin 1) ⟨128 * b + (x 1).val, blk_lt hb (x 1).isLt⟩)
/-- The block of rows they name. -/
def blkRows (Tb : S129920x128.Idx → Elt F .f32) (X : S1x1048576.Idx → Elt F .i32) (b : Nat) (hb : b < 8192) : S128x128.Idx → Elt F .f32 :=
  fun x => Gout Tb X (ix2 ⟨128 * b + (x 0).val, blk_lt hb (x 0).isLt⟩ (x 1))

theorem read_iBlk (X : S1x1048576.Idx → Elt F .i32) (b : Nat) (hb : b < 8192) :
    (iBlk b hb).view.read (Elt F) X = blkIdx X b hb := by
  funext x
  refine (View.read_apply _ _).trans ((cast_eq _ _).trans ?_)
  exact congrArg X (iBlk_emb b hb x)
theorem read_offs {f : S2x1x128.Idx → Elt F .i32} {p : Nat} {hp : p < 2} {w : S1x128.Idx → Elt F .i32}
    (h : (iSlot p hp).view.read (Elt F) f = w) (x : S128.Idx) : (offs p hp).view.read (Elt F) f x = w (ix2 (0 : Fin 1) (x 0)) := by
  rw [← h]
  refine (View.read_apply _ _).trans ((cast_eq _ _).trans ?_)
  refine Eq.trans ?_ ((View.read_apply _ _).trans (cast_eq _ _)).symm
  exact congrArg f (offs_emb p hp x)
theorem read_tAll (Tb : S129920x128.Idx → Elt F .f32) : tAll.view.read (Elt F) Tb = Tb := by
  funext x
  refine (View.read_apply _ _).trans ((cast_eq _ _).trans ?_)
  exact congrArg Tb (tAll_emb x)

theorem offs_inRange {X : S1x1048576.Idx → Elt F .i32} (hX : ∀ j, (X j : BitVec 32).toNat < 129920)
    {f : S2x1x128.Idx → Elt F .i32} {p : Nat} {hp : p < 2} {b : Nat} {hb : b < 8192}
    (h : (iSlot p hp).view.read (Elt F) f = blkIdx X b hb) :
    ∀ x, ((offs p hp).view.read (Elt F) f x : BitVec 32).toNat < S129920x128.size gathers_S129920x128_S128x128.axis := fun x => by
  rw [read_offs h]; exact hX _

/-- What the gather writes into the row slot. -/
theorem payload_eq {Tb : S129920x128.Idx → Elt F .f32} {X : S1x1048576.Idx → Elt F .i32} (hX : ∀ j, (X j : BitVec 32).toNat < 129920)
    {f : S2x1x128.Idx → Elt F .i32} {p : Nat} {hp : p < 2} {b : Nat} {hb : b < 8192}
    (h : (iSlot p hp).view.read (Elt F) f = blkIdx X b hb)
    (hin : ∀ x, ((offs p hp).view.read (Elt F) f x : BitVec 32).toNat < S129920x128.size gathers_S129920x128_S128x128.axis)
    (hn : S128.numel = S128x128.size gathers_S129920x128_S128x128.axis') :
    SparseCore.gatherPayload (F := F) (e := .f32) gathers_S129920x128_S128x128 (tAll.view.read (Elt F) Tb)
      (SparseCore.rows ((offs p hp).view.read (Elt F) f) hn hin) = blkRows Tb X b hb := by
  funext x
  unfold SparseCore.gatherPayload blkRows Gout
  rw [read_tAll]
  congr 1
  have hk : (S128.rowMajor.symm ((x 0 : Fin 128).cast hn.symm) : S128.Idx) = ix1 (x 0) := by
    apply S128.rowMajor.injective
    rw [Equiv.apply_symm_apply]
    exact Fin.ext (Shape.rowMajor_val_one (ix1 (x 0 : Fin 128) : (⟨1, ![128]⟩ : Shape).Idx)).symm
  funext a
  match a with
  | 0 =>
    refine (Shape.Gathers.idx_axis (s := S129920x128) (t := S128x128) (a := 0) gathers_S129920x128_S128x128 _ x).trans ?_
    apply Fin.ext
    have e1 := read_offs h (S128.rowMajor.symm ((x 0 : Fin 128).cast hn.symm))
    show ((offs p hp).view.read (Elt F) f (S128.rowMajor.symm ((x 0 : Fin 128).cast hn.symm)) : BitVec 32).toNat = _
    rw [e1, hk]
    exact (Nat.mod_eq_of_lt (hX _)).symm
  | 1 => exact Fin.ext (Shape.Gathers.idx_of_ne (s := S129920x128) (t := S128x128) (a := 0) gathers_S129920x128_S128x128 _ x 1 (by decide))

/-- What the write-out leaves in the result's block. -/
theorem write_oBlk {Tb : S129920x128.Idx → Elt F .f32} {X : S1x1048576.Idx → Elt F .i32} (b : Nat) (hb : b < 8192)
    (f : S1048576x128.Idx → Elt F .f32) : ∀ i ∈ oR b (b + 1), (oBlk b hb).view.write (Elt F) f (blkRows Tb X b hb) Finset.univ i = Gout Tb X i := by
  intro i hi
  rw [← set_oBlk b hb] at hi
  obtain ⟨x, -, rfl⟩ := Finset.mem_map.mp hi
  refine (View.write_emb_of_mem (v := (oBlk b hb).view) f (blkRows Tb X b hb) (M := Finset.univ) (Finset.mem_univ x)).trans ((cast_eq _ _).trans ?_)
  unfold blkRows
  exact congrArg (Gout Tb X) (oBlk_emb b hb x).symm

end Cert.Proof.Tile

end
-- ==== Proof.Steps.lean ====
/-
  What the tile holds between its steps, and one lemma per step: the index fetch and its wait, the gather and its wait,
  the write-out and its wait. A slot is named by the block number using it; blocks two apart use the same slot.
-/
module

public import proofs.«01_k».proof.Proof.Geometry

@[expose] public section

noncomputable section

namespace Cert.Proof.Tile

open Cert.KernelIdeal Cert.KernelIdeal.Gen Cert.Proof
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev cV (L : grid0.Coords) : Fin τ.nSC := (L 0).castLE hcore0
abbrev jV (L : grid0.Coords) : Fin τ.nSub := (L 1).castLE hsub0

variable (d : Dev nD) (L : grid0.Coords)
variable (Tb : S129920x128.Idx → Elt F .f32) (X : S1x1048576.Idx → Elt F .i32) (q : PosShare TreeShare)
variable (O : CellTallies nD τ sig (HIx 1)) (W₀ : Waits sig (HIx 1))

theorem m2 (n : Nat) : n % 2 < 2 := Nat.mod_lt _ (by norm_num)
theorem blk_ok {n : Nat} (hn : n < 256) : baseBlk L + n < 8192 := by have := base_lt L; omega

/-! ## The resources -/

/-- Slot `n` of the index buffer, at some contents; holding block `n`'s indices. -/
def iFree (n : Nat) : sProp 𝕄 :=
  iprop(∃ f, (iSlot (n % 2) (m2 n)).view.loc (V d (cV L) (jV L)) ↦[(iSlot (n % 2) (m2 n)).view.set]{fullShare} f)
def iHas (n : Nat) (hn : n < 256) : sProp 𝕄 :=
  iprop(∃ f, ⌜(iSlot (n % 2) (m2 n)).view.read (Elt F) f = blkIdx X (baseBlk L + n) (blk_ok L hn)⌝
    ∗ (iSlot (n % 2) (m2 n)).view.loc (V d (cV L) (jV L)) ↦[(iSlot (n % 2) (m2 n)).view.set]{fullShare} f)
/-- Slot `n` of the row buffer, at some contents; holding block `n`'s rows. -/
def rFree (n : Nat) : sProp 𝕄 :=
  iprop(∃ f, (rSlot (n % 2) (m2 n)).view.loc (V d (cV L) (jV L)) ↦[(rSlot (n % 2) (m2 n)).view.set]{fullShare} f)
def rHas (n : Nat) (hn : n < 256) : sProp 𝕄 :=
  iprop(∃ f, ⌜(rSlot (n % 2) (m2 n)).view.read (Elt F) f = blkRows Tb X (baseBlk L + n) (blk_ok L hn)⌝
    ∗ (rSlot (n % 2) (m2 n)).view.loc (V d (cV L) (jV L)) ↦[(rSlot (n % 2) (m2 n)).view.set]{fullShare} f)
/-- Blocks `a` to `b` of the index list; of the result, unwritten and written; a share of the table. -/
def xPts (a b : Nat) : sProp 𝕄 := iprop(xV.view.loc (V d (cV L) (jV L)) ↦[iR a b]{fullShare} X)
def oOld (a b : Nat) : sProp 𝕄 := iprop(∃ f, oV.view.loc (V d (cV L) (jV L)) ↦[oR a b]{fullShare} f)
def oNew (a b : Nat) : sProp 𝕄 := iprop(oV.view.loc (V d (cV L) (jV L)) ↦[oR a b]{fullShare} Gout Tb X)
def tPts : sProp 𝕄 := iprop(tV.view.loc (V d (cV L) (jV L)) ↦{q} Tb)
/-- The cells at zero. -/
def iZero (n : Nat) : sProp 𝕄 := iprop(semVal (V d (cV L) (jV L), SemLoc.dma (iSem (n % 2) (m2 n))) 0)
def oZero (n : Nat) : sProp 𝕄 := iprop(semVal (V d (cV L) (jV L), SemLoc.dma (oSem (n % 2) (m2 n))) 0)
def gZero : sProp 𝕄 := iprop(semVal (V d (cV L) (jV L), SemLoc.dma gSem) 0)
/-- The transfers in flight. -/
def iFly (n : Nat) (hn : n < 256) : sProp 𝕄 :=
  Transfers.Flight countersEmb (V d (cV L) (jV L)) (.dma (iSem (n % 2) (m2 n))) (none : HIx 1) (iSlot (n % 2) (m2 n)).view.dmaCredit (iHas d L X n hn)
def gFly (n : Nat) (hn : n < 256) : sProp 𝕄 :=
  Transfers.Flight countersEmb (V d (cV L) (jV L)) (.dma gSem) (none : HIx 1) (rSlot (n % 2) (m2 n)).view.dmaCredit
    iprop(rHas d L Tb X n hn ∗ iFree (F := F) d L n ∗ tPts d L Tb q)
def oFly (n : Nat) : sProp 𝕄 :=
  Transfers.Flight countersEmb (V d (cV L) (jV L)) (.dma (oSem (n % 2) (m2 n))) (none : HIx 1) (rSlot (n % 2) (m2 n)).view.dmaCredit
    iprop(oNew d L Tb X (baseBlk L + n) (baseBlk L + n + 1) ∗ rFree (F := F) d L n)
/-- What the thread owes, with the levels its waits go by. -/
def owed : sProp 𝕄 :=
  iprop(levAts (K (F := F)).L (K (F := F)).lev ∗ ∃ W', ⌜∀ p ∈ W', p ∈ W₀ ∨ p.2 = none⌝ ∗ owes (V d (cV L) (jV L)) O W')

theorem iFree_add_two (n : Nat) : iFree (F := F) d L (n + 2) = iFree d L n := by
  have h : ∀ p hp p' hp', p = p' → ((fun p hp => iprop(∃ f, (iSlot p hp).view.loc (V d (cV L) (jV L)) ↦[(iSlot p hp).view.set]{fullShare} f) : ∀ p, p < 2 → sProp 𝕄) p hp)
      = (fun p hp => iprop(∃ f, (iSlot p hp).view.loc (V d (cV L) (jV L)) ↦[(iSlot p hp).view.set]{fullShare} f) : ∀ p, p < 2 → sProp 𝕄) p' hp' := by
    rintro p hp p' hp' rfl; rfl
  exact h _ _ _ _ (Nat.add_mod_right n 2)
theorem rFree_add_two (n : Nat) : rFree (F := F) d L (n + 2) = rFree d L n := by
  have h : ∀ p hp p' hp', p = p' → ((fun p hp => iprop(∃ f, (rSlot p hp).view.loc (V d (cV L) (jV L)) ↦[(rSlot p hp).view.set]{fullShare} f) : ∀ p, p < 2 → sProp 𝕄) p hp)
      = (fun p hp => iprop(∃ f, (rSlot p hp).view.loc (V d (cV L) (jV L)) ↦[(rSlot p hp).view.set]{fullShare} f) : ∀ p, p < 2 → sProp 𝕄) p' hp' := by
    rintro p hp p' hp' rfl; rfl
  exact h _ _ _ _ (Nat.add_mod_right n 2)
theorem iZero_add_two (n : Nat) : iZero (F := F) d L (n + 2) = iZero d L n := by
  have h : ∀ p hp p' hp', p = p' → ((fun p hp => iprop(semVal (V d (cV L) (jV L), SemLoc.dma (iSem p hp)) 0) : ∀ p, p < 2 → sProp 𝕄) p hp)
      = (fun p hp => iprop(semVal (V d (cV L) (jV L), SemLoc.dma (iSem p hp)) 0) : ∀ p, p < 2 → sProp 𝕄) p' hp' := by
    rintro p hp p' hp' rfl; rfl
  exact h _ _ _ _ (Nat.add_mod_right n 2)
theorem oZero_add_two (n : Nat) : oZero (F := F) d L (n + 2) = oZero d L n := by
  have h : ∀ p hp p' hp', p = p' → ((fun p hp => iprop(semVal (V d (cV L) (jV L), SemLoc.dma (oSem p hp)) 0) : ∀ p, p < 2 → sProp 𝕄) p hp)
      = (fun p hp => iprop(semVal (V d (cV L) (jV L), SemLoc.dma (oSem p hp)) 0) : ∀ p, p < 2 → sProp 𝕄) p' hp' := by
    rintro p hp p' hp' rfl; rfl
  exact h _ _ _ _ (Nat.add_mod_right n 2)
theorem xPts_split {a b c : Nat} (h : a ≤ b) (h' : b ≤ c) : xPts d L X a c ⊢ iprop(xPts d L X a b ∗ xPts d L X b c) := by
  unfold xPts; rw [← iR_union h h']; exact (pointsTo_union (iR_disj a b c)).1
theorem oOld_split {a b c : Nat} (h : a ≤ b) (h' : b ≤ c) : oOld (F := F) d L a c ⊢ iprop(oOld d L a b ∗ oOld d L b c) := by
  unfold oOld; rw [← oR_union h h']
  iintro ⟨%f, H⟩
  ihave H := (pointsTo_union (oR_disj a b c)).1 $$ H
  icases H with ⟨H1, H2⟩
  isplitl [H1]; · iexists f; iexact H1
  iexists f; iexact H2
theorem oNew_join {a b c : Nat} (h : a ≤ b) (h' : b ≤ c) : iprop(oNew d L Tb X a b ∗ oNew d L Tb X b c) ⊢ oNew d L Tb X a c := by
  unfold oNew; rw [← oR_union h h']; exact (pointsTo_union (oR_disj a b c)).2

/-! ## The steps -/

variable {α : Type} {Q : α → sProp (MM F)}

/-- The fetch of block `n`'s indices. -/
theorem dma_i (n : Nat) (hn : n < 256) {src : Memref sig .scVector .hbm S1x128 .i32} {dst : Memref sig .scVector .vmem S1x128 .i32} {sm : DmaSem sig}
    {h1 : src.view.WordExact} {h2 : dst.view.WordExact} {h3 : DmaTarget.Typed (nD := nD) (p := Proc.scVector (τ := τ) (cV L) (jV L)) .hbm (.dma sm) (.here dst)}
    {k : PUnit → Prog (TpuEff nD τ sig (Elt F) Λ₀ (.scVector (cV L) (jV L))) α}
    (hs : src = iBlk (baseBlk L + n) (blk_ok L hn)) (hd : dst = iSlot (n % 2) (m2 n)) (hm : sm = iSem (n % 2) (m2 n)) :
    iprop(iFree (F := F) d L n ∗ iZero (F := F) d L n ∗ xPts d L X (baseBlk L + n) (baseBlk L + n + 1))
      ⊢ iprop((iFly d L X n hn -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.enqueueDmaAs src (.here dst) .same (.dma sm) h1 h2 h3) k) Q) := by
  subst hs hd hm
  unfold iFree iZero xPts
  rw [← set_iBlk (baseBlk L + n) (blk_ok L hn)]
  iintro ⟨⟨%f, Hi⟩, Hz, Hx⟩ Hk
  iapply (Transfers.wp_dmaLocal countersEmb 𝒱₀ (V d (cV L) (jV L)) none (none : HIx 1) (iSlot (n % 2) (m2 n)).view.dmaCredit rfl
    (View.dmaCredit_pos _ (by decide)) subset_rfl) $$ [Hi Hz Hx]
  · isplitl [Hx]; · iexact Hx
    isplitl [Hi]; · iexact Hi
    iexact Hz
  iintro Hf
  iapply Hk
  unfold iFly
  iapply (Transfers.Flight_mono countersEmb (V d (cV L) (jV L)) ?_) $$ Hf
  unfold iHas
  iintro ⟨Hi, -⟩
  iexists _
  isplitr; swap; · iexact Hi
  ipureintro
  refine (View.read_write_univ _ _).trans ?_
  exact read_iBlk X _ _

/-- Its wait. -/
theorem wait_i (n : Nat) (hn : n < 256) {srcw : Memref sig .scVector .hbm S1x128 .i32} {dstw : Memref sig .scVector .vmem S1x128 .i32} {sm : DmaSem sig}
    {h1 : srcw.view.WordExact} {h2 : dstw.view.WordExact} (hO : ∀ g, O g none = 0)
    {k : PUnit → Prog (TpuEff nD τ sig (Elt F) Λ₀ (.scVector (cV L) (jV L))) α}
    (hd : dstw = iSlot (n % 2) (m2 n)) (hm : sm = iSem (n % 2) (m2 n)) :
    iprop(iFly d L X n hn ∗ owed (F := F) d L O W₀)
      ⊢ iprop((iprop(iHas d L X n hn ∗ iZero (F := F) d L n ∗ owed (F := F) d L O W₀)
            -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.waitDma2 sm srcw dstw h1 h2) k) Q) := by
  subst hd hm
  unfold iFly iZero owed
  iintro ⟨Hf, #Hlv, %W', %hW', HO⟩ Hk
  iapply (Transfers.wp_waitLocalO countersEmb 𝒱₀ (V d (cV L) (jV L)) none (none : HIx 1) rfl) $$ [Hf HO]
  · isplitl [Hf]; · iexact Hf
    isplitl [HO]; · iexact HO
    iapply ((K (F := F)).mayWait_none (thr := V d (cV L) (jV L)) _ hO); iexact Hlv
  iintro ⟨HD, Hz, HO⟩
  iapply Hk
  isplitl [HD]; · iexact HD
  isplitl [Hz]; · iexact Hz
  isplitr; · iexact Hlv
  iexists _; isplitr; swap; · iexact HO
  ipureintro; intro p hp
  rcases Finset.mem_insert.mp hp with hp | hp
  · exact .inr (hp ▸ rfl)
  · exact hW' p hp

/-- The gather of block `n`'s rows. -/
theorem gather (n : Nat) (hn : n < 256) (hX : ∀ j, (X j : BitVec 32).toNat < 129920)
    {src : Memref sig .scVector .hbm S129920x128 .f32} {dst : Memref sig .scVector .vmem S128x128 .f32} {of : Memref sig .scVector .vmem S128 .i32} {sm : DmaSem sig}
    {hp : (Proc.scVector (τ := τ) (cV L) (jV L)).kind = .scVector} {hsrc : src.view.WordExact} {he : EltTy.bits .f32 = 32} {hsp : Space.hbm = .hbm ∨ Space.hbm = .shared}
    {hr : S129920x128.StreamRows 0} {hnn : S128.numel = S128x128.size gathers_S129920x128_S128x128.axis'}
    {k : PUnit → Prog (TpuEff nD τ sig (Elt F) Λ₀ (.scVector (cV L) (jV L))) α}
    (hs : src = tAll) (hd : dst = rSlot (n % 2) (m2 n)) (hof : of = offs (n % 2) (m2 n)) (hm : sm = gSem) :
    iprop(tPts d L Tb q ∗ rFree (F := F) d L n ∗ iHas d L X n hn ∗ gZero (F := F) d L)
      ⊢ iprop((gFly d L Tb X q n hn -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.enqueueIndirectGather hp src dst gathers_S129920x128_S128x128 of hnn sm hsrc he hsp hr >>= k) Q) := by
  subst hs hd hof hm
  have hN : ∑ j, ((rSlot (n % 2) (m2 n)).slice (S128x128.rowRect gathers_S129920x128_S128x128.axis' j)
      (S128x128.stride_rowRect gathers_S129920x128_S128x128.axis' j)).view.dmaCredit = (rSlot (n % 2) (m2 n)).view.dmaCredit := by
    have h : ∀ p : Fin 2, ∑ j, ((rSlot p.val p.isLt).slice (S128x128.rowRect gathers_S129920x128_S128x128.axis' j)
      (S128x128.stride_rowRect gathers_S129920x128_S128x128.axis' j)).view.dmaCredit = (rSlot p.val p.isLt).view.dmaCredit := by decide +kernel
    exact h ⟨n % 2, m2 n⟩
  unfold tPts rFree iHas gZero
  iintro ⟨Ht, ⟨%g, Hr⟩, ⟨%f, %hf, Hi⟩, Hz⟩ Hk
  iapply (SparseCore.wp_indirectGatherLocal countersEmb 𝒱₀ (V d (cV L) (jV L)) none (hg := gathers_S129920x128_S128x128) (none : HIx 1)
      (rSlot (n % 2) (m2 n)).view.dmaCredit hN (by decide) (offs_inRange hX hf)) $$ [Ht Hr Hi Hz]
  · isplitl [Ht]; · rw [set_tAll]; iexact Ht
    isplitl [Hr]; · iexact Hr
    isplitl [Hi]; · rw [set_offs]; iexact Hi
    iexact Hz
  iintro Hf
  iapply Hk
  unfold gFly
  iapply (Transfers.Flight_mono countersEmb (V d (cV L) (jV L)) ?_) $$ Hf
  unfold rHas iFree tPts
  iintro ⟨Hr, Ht, Hi⟩
  isplitl [Hr]
  · iexists _
    isplitr; swap; · iexact Hr
    ipureintro
    exact (View.read_write_univ _ _).trans (payload_eq hX hf _ _)
  isplitl [Hi]
  · iexists f; rw [set_offs]; iexact Hi
  · rw [set_tAll]; iexact Ht

/-- Its wait. -/
theorem wait_g (n : Nat) (hn : n < 256) {sp' : Space} {s' : Shape} {e' : EltTy} {srcw : Memref sig .scVector sp' s' e'} {dstw : Memref sig .scVector .vmem S128x128 .f32} {sm : DmaSem sig}
    {h1 : srcw.view.WordExact} {h2 : dstw.view.WordExact} (hO : ∀ g, O g none = 0)
    {k : PUnit → Prog (TpuEff nD τ sig (Elt F) Λ₀ (.scVector (cV L) (jV L))) α}
    (hd : dstw = rSlot (n % 2) (m2 n)) (hm : sm = gSem) :
    iprop(gFly d L Tb X q n hn ∗ owed (F := F) d L O W₀)
      ⊢ iprop((iprop((rHas d L Tb X n hn ∗ iFree (F := F) d L n ∗ tPts d L Tb q) ∗ gZero (F := F) d L ∗ owed (F := F) d L O W₀)
            -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.waitDma2 sm srcw dstw h1 h2) k) Q) := by
  subst hd hm
  unfold gFly gZero owed
  iintro ⟨Hf, #Hlv, %W', %hW', HO⟩ Hk
  iapply (Transfers.wp_waitLocalO countersEmb 𝒱₀ (V d (cV L) (jV L)) none (none : HIx 1) rfl) $$ [Hf HO]
  · isplitl [Hf]; · iexact Hf
    isplitl [HO]; · iexact HO
    iapply ((K (F := F)).mayWait_none (thr := V d (cV L) (jV L)) _ hO); iexact Hlv
  iintro ⟨HD, Hz, HO⟩
  iapply Hk
  isplitl [HD]; · iexact HD
  isplitl [Hz]; · iexact Hz
  isplitr; · iexact Hlv
  iexists _; isplitr; swap; · iexact HO
  ipureintro; intro p hp
  rcases Finset.mem_insert.mp hp with hp | hp
  · exact .inr (hp ▸ rfl)
  · exact hW' p hp

/-- The write-out of block `n`. -/
theorem dma_o (n : Nat) (hn : n < 256) {src : Memref sig .scVector .vmem S128x128 .f32} {dst : Memref sig .scVector .hbm S128x128 .f32} {sm : DmaSem sig}
    {h1 : src.view.WordExact} {h2 : dst.view.WordExact} {h3 : DmaTarget.Typed (nD := nD) (p := Proc.scVector (τ := τ) (cV L) (jV L)) .vmem (.dma sm) (.here dst)}
    {k : PUnit → Prog (TpuEff nD τ sig (Elt F) Λ₀ (.scVector (cV L) (jV L))) α}
    (hs : src = rSlot (n % 2) (m2 n)) (hd : dst = oBlk (baseBlk L + n) (blk_ok L hn)) (hm : sm = oSem (n % 2) (m2 n)) :
    iprop(rHas d L Tb X n hn ∗ oZero (F := F) d L n ∗ oOld (F := F) d L (baseBlk L + n) (baseBlk L + n + 1))
      ⊢ iprop((oFly d L Tb X n -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.enqueueDmaAs src (.here dst) .same (.dma sm) h1 h2 h3) k) Q) := by
  subst hs hd hm
  unfold rHas oZero oOld
  rw [← set_oBlk (baseBlk L + n) (blk_ok L hn)]
  iintro ⟨⟨%f, %hf, Hr⟩, Hz, %g, Ho⟩ Hk
  have hN : (oBlk (baseBlk L + n) (blk_ok L hn)).view.amount (.dma (oSem (n % 2) (m2 n))) = (rSlot (n % 2) (m2 n)).view.dmaCredit := by
    rfl
  iapply (Transfers.wp_dmaLocal countersEmb 𝒱₀ (V d (cV L) (jV L)) none (none : HIx 1) (rSlot (n % 2) (m2 n)).view.dmaCredit hN
    (View.dmaCredit_pos _ (by decide)) subset_rfl) $$ [Hr Hz Ho]
  · isplitl [Hr]; · iexact Hr
    isplitl [Ho]; · iexact Ho
    iexact Hz
  iintro Hf
  iapply Hk
  unfold oFly
  iapply (Transfers.Flight_mono countersEmb (V d (cV L) (jV L)) ?_) $$ Hf
  unfold oNew rFree
  iintro ⟨Ho, Hr⟩
  isplitl [Ho]; swap; · iexists f; iexact Hr
  rw [set_oBlk]
  have e : (rSlot (n % 2) (m2 n)).view.read (Elt F) f = blkRows Tb X (baseBlk L + n) (blk_ok L hn) := hf
  rw [show (ReadAs.same : ReadAs (Elt F) S128x128 .f32 S128x128 .f32).apply ((rSlot (n % 2) (m2 n)).view.read (Elt F) f) = blkRows Tb X (baseBlk L + n) (blk_ok L hn) from e]
  have e2 : (oV.view.loc (V d (cV L) (jV L)) ↦[oR (baseBlk L + n) (baseBlk L + n + 1)]{fullShare}
        ((oBlk (baseBlk L + n) (blk_ok L hn)).view.write (Elt F) g (blkRows Tb X (baseBlk L + n) (blk_ok L hn)) Finset.univ) : sProp 𝕄)
      = oV.view.loc (V d (cV L) (jV L)) ↦[oR (baseBlk L + n) (baseBlk L + n + 1)]{fullShare} Gout Tb X :=
    pointsTo_congr (write_oBlk (Tb := Tb) (X := X) (baseBlk L + n) (blk_ok L hn) g)
  iapply (Entails.of_eq e2); iexact Ho

/-- Its wait. -/
theorem wait_o (n : Nat) {srcw : Memref sig .scVector .vmem S128x128 .f32} {dstw : Memref sig .scVector .hbm S128x128 .f32} {sm : DmaSem sig}
    {h1 : srcw.view.WordExact} {h2 : dstw.view.WordExact} (hO : ∀ g, O g none = 0)
    {k : PUnit → Prog (TpuEff nD τ sig (Elt F) Λ₀ (.scVector (cV L) (jV L))) α}
    {b : Nat} (hb : b < 8192) (hd : dstw = oBlk b hb) (hm : sm = oSem (n % 2) (m2 n)) :
    iprop(oFly d L Tb X n ∗ owed (F := F) d L O W₀)
      ⊢ iprop((iprop((oNew d L Tb X (baseBlk L + n) (baseBlk L + n + 1) ∗ rFree (F := F) d L n) ∗ oZero (F := F) d L n ∗ owed (F := F) d L O W₀)
            -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.waitDma2 sm srcw dstw h1 h2) k) Q) := by
  subst hd hm
  unfold oFly oZero owed
  iintro ⟨Hf, #Hlv, %W', %hW', HO⟩ Hk
  have hN : (oBlk b hb).view.dmaCredit = (rSlot (n % 2) (m2 n)).view.dmaCredit := by rfl
  iapply (Transfers.wp_waitLocalO countersEmb 𝒱₀ (V d (cV L) (jV L)) none (none : HIx 1) hN) $$ [Hf HO]
  · isplitl [Hf]; · iexact Hf
    isplitl [HO]; · iexact HO
    iapply ((K (F := F)).mayWait_none (thr := V d (cV L) (jV L)) _ hO); iexact Hlv
  iintro ⟨HD, Hz, HO⟩
  iapply Hk
  isplitl [HD]; · iexact HD
  isplitl [Hz]; · iexact Hz
  isplitr; · iexact Hlv
  iexists _; isplitr; swap; · iexact HO
  ipureintro; intro p hp
  rcases Finset.mem_insert.mp hp with hp | hp
  · exact .inr (hp ▸ rfl)
  · exact hW' p hp

end Cert.Proof.Tile

end
-- ==== Proof.Trip.lean ====
/-
  The pipeline's loop: what holds before trip `n`, and one trip from it to the next.
-/
module

public import proofs.«01_k».proof.Proof.Steps
public import proofs.«01_k».proof.Proof.Gen.KernelIdeal.Skeleton

@[expose] public section

noncomputable section

namespace Cert.Proof.Tile

open Cert.KernelIdeal Cert.KernelIdeal.Gen Cert.Proof
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

variable (d : Dev nD) (L : grid0.Coords)
variable (Tb : S129920x128.Idx → Elt F .f32) (X : S1x1048576.Idx → Elt F .i32) (q : PosShare TreeShare)
variable (O : CellTallies nD τ sig (HIx 1)) (W₀ : Waits sig (HIx 1))

/-- The fetch of block `n` in flight, or past the last block its slot free. -/
def iPart (n : Nat) : sProp 𝕄 :=
  if h : n < 256 then iFly d L X n h else iprop(iFree (F := F) d L n ∗ iZero (F := F) d L n)
/-- The write-out of block `n - 1` in flight, or before the first its slot free. -/
def oPart (n : Nat) : sProp 𝕄 :=
  if n = 0 then iprop(rFree (F := F) d L (n + 1) ∗ oZero (F := F) d L (n + 1)) else oFly d L Tb X (n - 1)

/-- What holds before trip `n`. -/
def inv (n : Nat) (acc : BitVec 32 × BitVec 32 × BitVec 32 × BitVec 32 × BitVec 32) : sProp 𝕄 :=
  iprop(⌜acc = carry n⌝ ∗ owed (F := F) d L O W₀ ∗ tPts d L Tb q ∗ gZero (F := F) d L
    ∗ iPart d L X n ∗ iFree (F := F) d L (n + 1) ∗ iZero (F := F) d L (n + 1) ∗ xPts d L X (baseBlk L + (n + 1)) (baseBlk L + 256)
    ∗ rFree (F := F) d L n ∗ oZero (F := F) d L n ∗ oPart d L Tb X n
    ∗ oOld (F := F) d L (baseBlk L + n) (baseBlk L + 256) ∗ oNew d L Tb X (baseBlk L) (baseBlk L + (n - 1)))

/-- The counter the loop's body takes from outside it. -/
def word (L : grid0.Coords) : BitVec 32 := BitVec.ofNat 32 (baseBlk L)

theorem rFree_succ {n : Nat} (h : 0 < n) : rFree (F := F) d L (n - 1) = rFree d L (n + 1) := by
  obtain ⟨k, rfl⟩ : ∃ k, n = k + 1 := ⟨n - 1, by omega⟩
  exact (rFree_add_two d L k).symm
theorem oZero_succ {n : Nat} (h : 0 < n) : oZero (F := F) d L (n - 1) = oZero d L (n + 1) := by
  obtain ⟨k, rfl⟩ : ∃ k, n = k + 1 := ⟨n - 1, by omega⟩
  exact (oZero_add_two d L k).symm
theorem xPts_empty {a b c : Nat} (h : c ≤ a) (h' : c ≤ b) : xPts d L X a c = xPts d L X b c := by
  have : iR a c = iR b c := by ext x; rw [mem_iR, mem_iR]; omega
  unfold xPts; rw [this]

set_option maxHeartbeats 8000000 in
theorem trip (hO : ∀ g, O g none = 0) (hX : ∀ j, (X j : BitVec 32).toNat < 129920) (v4 : BitVec 32) (hv4 : v4 = word L)
    (t : Fin k0_t1_loop.trips) (acc : BitVec 32 × BitVec 32 × BitVec 32 × BitVec 32 × BitVec 32) :
    inv d L Tb X q O W₀ t.val acc
      ⊢ wp frame (wpE (defs₀ (F := F)) 𝒱₀ (V d (cV L) (jV L)) none) Set.univ
          (k0_t1_body L tV (Memref.isWhole_whole _) xV (Memref.isWhole_whole _) oV (Memref.isWhole_whole _)
            isV (Memref.isWhole_whole _) cc0_scoped1 rsV (Memref.isWhole_whole _) cc0_scoped3 cc0_scoped4 v4 t acc)
          (inv d L Tb X q O W₀ (t.val + 1)) := by
  have ht : t.val < 256 := trips_eq ▸ t.isLt
  have hc2 := cond2_true L t
  have hc5 := cond5_true L t
  have hk1 := chk1_ok L t
  have hk2 := chk2_ok t
  have hk3 := chk3_ok t
  unfold inv
  iintro ⟨%hacc, HO, Ht, Hgz, Hip, Hif, Hiz, Hx, Hr, Hoz, Hop, Hold, Hnew⟩
  subst hacc
  unfold carry
  unfold k0_t1_body
  by_cases h1 : t.val + 1 < 256
  · have hc1 := (cond1_iff L t).mpr h1
    by_cases h7 : 0 < t.val
    · have hc7 := (cond7_iff L t).mpr h7
      simp only [k0_part1_eq_skeleton, k0_part2_eq_skeleton]
      unfold k0_part1_skel k0_part2_skel
      sl_exec
      ihave Hx := (xPts_split d L X (a := baseBlk L + (t.val + 1)) (b := baseBlk L + (t.val + 1) + 1) (c := baseBlk L + 256) (by omega) (by omega)) $$ Hx
      icases Hx with ⟨Hxb, Hx⟩
      iapply (dma_i d L X (t.val + 1) h1 (hs := iBlk_eq _ (off5_val L t h1) _) (hd := iSlot_eq _ (off4_val t h1) _) (hm := iSem_eq _ (off6_val t h1) _)) $$ [Hif Hiz Hxb]
      · isplitl [Hif]; · iexact Hif
        isplitl [Hiz]; · iexact Hiz
        iexact Hxb
      iintro Hfl
      sl_exec
      ihave Hip := (Entails.of_eq (show iPart d L X t.val = iFly d L X t.val ht from dif_pos ht)) $$ Hip
      iapply (wait_i d L X O W₀ t.val ht hO (hd := iSlot_eq _ (off7_val t) _) (hm := iSem_eq _ (off9_val t) _)) $$ [Hip HO]
      · isplitl [Hip]; · iexact Hip
        iexact HO
      iintro ⟨Hih, Hiz', HO⟩
      sl_exec
      iapply (gather d L Tb X q t.val ht hX (hs := rfl) (hd := rSlot_eq _ (off10_val t) _) (hof := offs_eq _ (off11_val t) _) (hm := rfl)) $$ [Ht Hr Hih Hgz]
      · isplitl [Ht]; · iexact Ht
        isplitl [Hr]; · iexact Hr
        isplitl [Hih]; · iexact Hih
        iexact Hgz
      iintro Hg
      sl_exec
      iapply (wait_g d L Tb X q O W₀ t.val ht hO (hd := rSlot_eq _ (off10_val t) _) (hm := rfl)) $$ [Hg HO]
      · isplitl [Hg]; · iexact Hg
        iexact HO
      iintro ⟨⟨Hrh, Hif', Ht⟩, Hgz, HO⟩
      sl_exec
      ihave Hold := (oOld_split d L (a := baseBlk L + t.val) (b := baseBlk L + t.val + 1) (c := baseBlk L + 256) (by omega) (by omega)) $$ Hold
      icases Hold with ⟨Hob, Hold⟩
      iapply (dma_o d L Tb X t.val ht (hs := rSlot_eq _ (off12_val t) _) (hd := oBlk_eq _ (off13_val L t) _) (hm := oSem_eq _ (off14_val t) _)) $$ [Hrh Hoz Hob]
      · isplitl [Hrh]; · iexact Hrh
        isplitl [Hoz]; · iexact Hoz
        iexact Hob
      iintro Hof
      sl_exec
      ihave Hop := (Entails.of_eq (show oPart d L Tb X t.val = oFly d L Tb X (t.val - 1) from if_neg (by omega))) $$ Hop
      iapply (wait_o d L Tb X O W₀ (t.val - 1) hO (blk_ok L (n := t.val - 1) (by omega)) (hd := oBlk_eq _ (off16_val L t h7) _)
        (hm := oSem_eq _ ((off17_val t h7).trans (by rw [show (t.val + 1) % 2 = (t.val - 1) % 2 by omega])) _)) $$ [Hop HO]
      · isplitl [Hop]; · iexact Hop
        iexact HO
      iintro ⟨⟨Hnb, Hr⟩, Hoz, HO⟩
      ihave Hnew := (oNew_join d L Tb X (a := baseBlk L) (b := baseBlk L + (t.val - 1)) (c := baseBlk L + (t.val - 1) + 1) (by omega) (by omega)) $$ [Hnew Hnb]
      · isplitl [Hnew]; · iexact Hnew
        iexact Hnb
      ihave Hr := (Entails.of_eq (rFree_succ d L h7)) $$ Hr
      ihave Hoz := (Entails.of_eq (oZero_succ d L h7)) $$ Hoz
      ihave Hnew := (Entails.of_eq (show oNew d L Tb X (baseBlk L) (baseBlk L + (t.val - 1) + 1) = oNew d L Tb X (baseBlk L) (baseBlk L + (t.val + 1 - 1)) from
        congrArg _ (by omega))) $$ Hnew
      sl_exec
      ihave Hfl := (Entails.of_eq (show iFly d L X (t.val + 1) h1 = iPart d L X (t.val + 1) from (dif_pos h1).symm)) $$ Hfl
      ihave Hif' := (Entails.of_eq (iFree_add_two d L t.val).symm) $$ Hif'
      ihave Hiz' := (Entails.of_eq (iZero_add_two d L t.val).symm) $$ Hiz'
      ihave Hof := (Entails.of_eq (show oFly d L Tb X t.val = oPart d L Tb X (t.val + 1) from (if_neg (by omega)).symm)) $$ Hof
      sl_step
      isplitr
      · ipureintro
        subst hv4
        clear hk1 hk2 hk3 hc2 hc5 hO hX ht
        clear hc1 hc7; revert h1 h7; revert t L; decide +kernel
      isplitl [HO]; · iexact HO
      isplitl [Ht]; · iexact Ht
      isplitl [Hgz]; · iexact Hgz
      isplitl [Hfl]; · iexact Hfl
      isplitl [Hif']; · iexact Hif'
      isplitl [Hiz']; · iexact Hiz'
      isplitl [Hx]; · iexact Hx
      isplitl [Hr]; · iexact Hr
      isplitl [Hoz]; · iexact Hoz
      isplitl [Hof]; · iexact Hof
      isplitl [Hold]; · iexact Hold
      iexact Hnew
    · have hc7 : ¬ _ := fun h => h7 ((cond7_iff L t).mp h)
      simp only [k0_part1_eq_skeleton, k0_part2_eq_skeleton]
      unfold k0_part1_skel k0_part2_skel
      sl_exec
      ihave Hx := (xPts_split d L X (a := baseBlk L + (t.val + 1)) (b := baseBlk L + (t.val + 1) + 1) (c := baseBlk L + 256) (by omega) (by omega)) $$ Hx
      icases Hx with ⟨Hxb, Hx⟩
      iapply (dma_i d L X (t.val + 1) h1 (hs := iBlk_eq _ (off5_val L t h1) _) (hd := iSlot_eq _ (off4_val t h1) _) (hm := iSem_eq _ (off6_val t h1) _)) $$ [Hif Hiz Hxb]
      · isplitl [Hif]; · iexact Hif
        isplitl [Hiz]; · iexact Hiz
        iexact Hxb
      iintro Hfl
      sl_exec
      ihave Hip := (Entails.of_eq (show iPart d L X t.val = iFly d L X t.val ht from dif_pos ht)) $$ Hip
      iapply (wait_i d L X O W₀ t.val ht hO (hd := iSlot_eq _ (off7_val t) _) (hm := iSem_eq _ (off9_val t) _)) $$ [Hip HO]
      · isplitl [Hip]; · iexact Hip
        iexact HO
      iintro ⟨Hih, Hiz', HO⟩
      sl_exec
      iapply (gather d L Tb X q t.val ht hX (hs := rfl) (hd := rSlot_eq _ (off10_val t) _) (hof := offs_eq _ (off11_val t) _) (hm := rfl)) $$ [Ht Hr Hih Hgz]
      · isplitl [Ht]; · iexact Ht
        isplitl [Hr]; · iexact Hr
        isplitl [Hih]; · iexact Hih
        iexact Hgz
      iintro Hg
      sl_exec
      iapply (wait_g d L Tb X q O W₀ t.val ht hO (hd := rSlot_eq _ (off10_val t) _) (hm := rfl)) $$ [Hg HO]
      · isplitl [Hg]; · iexact Hg
        iexact HO
      iintro ⟨⟨Hrh, Hif', Ht⟩, Hgz, HO⟩
      sl_exec
      ihave Hold := (oOld_split d L (a := baseBlk L + t.val) (b := baseBlk L + t.val + 1) (c := baseBlk L + 256) (by omega) (by omega)) $$ Hold
      icases Hold with ⟨Hob, Hold⟩
      iapply (dma_o d L Tb X t.val ht (hs := rSlot_eq _ (off12_val t) _) (hd := oBlk_eq _ (off13_val L t) _) (hm := oSem_eq _ (off14_val t) _)) $$ [Hrh Hoz Hob]
      · isplitl [Hrh]; · iexact Hrh
        isplitl [Hoz]; · iexact Hoz
        iexact Hob
      iintro Hof
      sl_exec
      have h0 : t.val = 0 := by omega
      ihave Hop := (Entails.of_eq (show oPart d L Tb X t.val = iprop(rFree (F := F) d L (t.val + 1) ∗ oZero (F := F) d L (t.val + 1)) from if_pos h0)) $$ Hop
      icases Hop with ⟨Hr, Hoz⟩
      ihave Hnew := (Entails.of_eq (show oNew d L Tb X (baseBlk L) (baseBlk L + (t.val - 1)) = oNew d L Tb X (baseBlk L) (baseBlk L + (t.val + 1 - 1)) from
        congrArg _ (by omega))) $$ Hnew
      ihave Hfl := (Entails.of_eq (show iFly d L X (t.val + 1) h1 = iPart d L X (t.val + 1) from (dif_pos h1).symm)) $$ Hfl
      ihave Hif' := (Entails.of_eq (iFree_add_two d L t.val).symm) $$ Hif'
      ihave Hiz' := (Entails.of_eq (iZero_add_two d L t.val).symm) $$ Hiz'
      ihave Hof := (Entails.of_eq (show oFly d L Tb X t.val = oPart d L Tb X (t.val + 1) from (if_neg (by omega)).symm)) $$ Hof
      sl_step
      isplitr
      · ipureintro
        subst hv4
        clear hk1 hk2 hk3 hc2 hc5 hO hX ht
        clear hc1 hc7 h0; revert h1 h7; revert t L; decide +kernel
      isplitl [HO]; · iexact HO
      isplitl [Ht]; · iexact Ht
      isplitl [Hgz]; · iexact Hgz
      isplitl [Hfl]; · iexact Hfl
      isplitl [Hif']; · iexact Hif'
      isplitl [Hiz']; · iexact Hiz'
      isplitl [Hx]; · iexact Hx
      isplitl [Hr]; · iexact Hr
      isplitl [Hoz]; · iexact Hoz
      isplitl [Hof]; · iexact Hof
      isplitl [Hold]; · iexact Hold
      iexact Hnew
  · have hc1 : ¬ _ := fun h => h1 ((cond1_iff L t).mp h)
    have h7 : 0 < t.val := by omega
    have hc7 := (cond7_iff L t).mpr h7
    simp only [k0_part1_eq_skeleton, k0_part2_eq_skeleton]
    unfold k0_part1_skel k0_part2_skel
    sl_exec
    ihave Hip := (Entails.of_eq (show iPart d L X t.val = iFly d L X t.val ht from dif_pos ht)) $$ Hip
    iapply (wait_i d L X O W₀ t.val ht hO (hd := iSlot_eq _ (off7_val t) _) (hm := iSem_eq _ (off9_val t) _)) $$ [Hip HO]
    · isplitl [Hip]; · iexact Hip
      iexact HO
    iintro ⟨Hih, Hiz', HO⟩
    sl_exec
    iapply (gather d L Tb X q t.val ht hX (hs := rfl) (hd := rSlot_eq _ (off10_val t) _) (hof := offs_eq _ (off11_val t) _) (hm := rfl)) $$ [Ht Hr Hih Hgz]
    · isplitl [Ht]; · iexact Ht
      isplitl [Hr]; · iexact Hr
      isplitl [Hih]; · iexact Hih
      iexact Hgz
    iintro Hg
    sl_exec
    iapply (wait_g d L Tb X q O W₀ t.val ht hO (hd := rSlot_eq _ (off10_val t) _) (hm := rfl)) $$ [Hg HO]
    · isplitl [Hg]; · iexact Hg
      iexact HO
    iintro ⟨⟨Hrh, Hif', Ht⟩, Hgz, HO⟩
    sl_exec
    ihave Hold := (oOld_split d L (a := baseBlk L + t.val) (b := baseBlk L + t.val + 1) (c := baseBlk L + 256) (by omega) (by omega)) $$ Hold
    icases Hold with ⟨Hob, Hold⟩
    iapply (dma_o d L Tb X t.val ht (hs := rSlot_eq _ (off12_val t) _) (hd := oBlk_eq _ (off13_val L t) _) (hm := oSem_eq _ (off14_val t) _)) $$ [Hrh Hoz Hob]
    · isplitl [Hrh]; · iexact Hrh
      isplitl [Hoz]; · iexact Hoz
      iexact Hob
    iintro Hof
    sl_exec
    ihave Hop := (Entails.of_eq (show oPart d L Tb X t.val = oFly d L Tb X (t.val - 1) from if_neg (by omega))) $$ Hop
    iapply (wait_o d L Tb X O W₀ (t.val - 1) hO (blk_ok L (n := t.val - 1) (by omega)) (hd := oBlk_eq _ (off16_val L t h7) _)
      (hm := oSem_eq _ ((off17_val t h7).trans (by rw [show (t.val + 1) % 2 = (t.val - 1) % 2 by omega])) _)) $$ [Hop HO]
    · isplitl [Hop]; · iexact Hop
      iexact HO
    iintro ⟨⟨Hnb, Hr⟩, Hoz, HO⟩
    ihave Hnew := (oNew_join d L Tb X (a := baseBlk L) (b := baseBlk L + (t.val - 1)) (c := baseBlk L + (t.val - 1) + 1) (by omega) (by omega)) $$ [Hnew Hnb]
    · isplitl [Hnew]; · iexact Hnew
      iexact Hnb
    ihave Hr := (Entails.of_eq (rFree_succ d L h7)) $$ Hr
    ihave Hoz := (Entails.of_eq (oZero_succ d L h7)) $$ Hoz
    ihave Hnew := (Entails.of_eq (show oNew d L Tb X (baseBlk L) (baseBlk L + (t.val - 1) + 1) = oNew d L Tb X (baseBlk L) (baseBlk L + (t.val + 1 - 1)) from
      congrArg _ (by omega))) $$ Hnew
    sl_exec
    ihave Hfl := (Entails.of_eq (show iprop(iFree (F := F) d L (t.val + 1) ∗ iZero (F := F) d L (t.val + 1)) = iPart d L X (t.val + 1) by unfold iPart; rw [dif_neg h1])) $$ [Hif Hiz]
    · isplitl [Hif]; · iexact Hif
      iexact Hiz
    ihave Hx := (Entails.of_eq (show xPts d L X (baseBlk L + (t.val + 1)) (baseBlk L + 256) = xPts d L X (baseBlk L + (t.val + 1) + 1) (baseBlk L + 256) from xPts_empty d L X (by omega) (by omega))) $$ Hx
    ihave Hif' := (Entails.of_eq (iFree_add_two d L t.val).symm) $$ Hif'
    ihave Hiz' := (Entails.of_eq (iZero_add_two d L t.val).symm) $$ Hiz'
    ihave Hof := (Entails.of_eq (show oFly d L Tb X t.val = oPart d L Tb X (t.val + 1) from (if_neg (by omega)).symm)) $$ Hof
    sl_step
    isplitr
    · ipureintro
      subst hv4
      clear hk1 hk2 hk3 hc2 hc5 hO hX ht
      clear hc1 hc7; revert h1 h7; revert t L; decide +kernel
    isplitl [HO]; · iexact HO
    isplitl [Ht]; · iexact Ht
    isplitl [Hgz]; · iexact Hgz
    isplitl [Hfl]; · iexact Hfl
    isplitl [Hif']; · iexact Hif'
    isplitl [Hiz']; · iexact Hiz'
    isplitl [Hx]; · iexact Hx
    isplitl [Hr]; · iexact Hr
    isplitl [Hoz]; · iexact Hoz
    isplitl [Hof]; · iexact Hof
    isplitl [Hold]; · iexact Hold
    iexact Hnew

end Cert.Proof.Tile

end
-- ==== Proof.Tile.lean ====
/-
  The task of one tile: its blocks of the index list fetched, the rows they name gathered and written out, over the
  pipeline's loop, from what the tile is handed to its blocks of the result.
-/
module

public import proofs.«01_k».proof.Proof.Trip

@[expose] public section

noncomputable section

namespace Cert.Proof.Tile

open Cert.KernelIdeal Cert.KernelIdeal.Gen Cert.Proof
open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

variable (d : Dev nD) (L : grid0.Coords)
variable (Tb : S129920x128.Idx → Elt F .f32) (X : S1x1048576.Idx → Elt F .i32) (q : PosShare TreeShare)
variable (O : CellTallies nD τ sig (HIx 1)) (W₀ : Waits sig (HIx 1))

/-! ## The tile's own cells and buffers -/

theorem z2 : 0 < 2 := by decide
theorem o2 : 1 < 2 := by decide

abbrev cell (s : DmaSem sig) : GSem nD τ sig := (V d (cV L) (jV L), .dma s)

theorem cell_ne {s s' : DmaSem sig} (h : s ≠ s') : cell d L s ≠ cell d L s' := fun e => h (SemLoc.dma.inj (Prod.mk.inj e).2)

omit [FloatOps F] in
/-- The five cells the tile uses are among its own. -/
theorem ownSems0_tile [FloatOps F] :
    (ownSems0 (V d (cV L) (jV L)) : sProp 𝕄)
      = iprop(semVal (cell d L (iSem 0 z2)) 0 ∗ semVal (cell d L (iSem 1 o2)) 0
          ∗ semVal (cell d L (oSem 0 z2)) 0 ∗ semVal (cell d L (oSem 1 o2)) 0 ∗ semVal (cell d L gSem) 0
          ∗ bigSep ((((((ownCells (V d (cV L) (jV L))).erase (cell d L (iSem 0 z2))).erase (cell d L (iSem 1 o2))).erase
              (cell d L (oSem 0 z2))).erase (cell d L (oSem 1 o2))).erase (cell d L gSem)) fun g => semVal g 0) := by
  have own : ∀ s : DmaSem sig, (SemLoc.dma s : SemLoc sig).isScoped .scVector = true → cell d L s ∈ ownCells (V d (cV L) (jV L)) :=
    fun s h => (mem_ownCells (g := cell d L s)).mpr ⟨rfl, h⟩
  have a0 := own (iSem 0 z2) (by decide)
  have a1 := own (iSem 1 o2) (by decide)
  have b0 := own (oSem 0 z2) (by decide)
  have b1 := own (oSem 1 o2) (by decide)
  have g0 := own gSem (by decide)
  have n1 := cell_ne d L (show iSem 1 o2 ≠ iSem 0 z2 by decide)
  have n2 := cell_ne d L (show oSem 0 z2 ≠ iSem 0 z2 by decide)
  have n3 := cell_ne d L (show oSem 0 z2 ≠ iSem 1 o2 by decide)
  have n4 := cell_ne d L (show oSem 1 o2 ≠ iSem 0 z2 by decide)
  have n5 := cell_ne d L (show oSem 1 o2 ≠ iSem 1 o2 by decide)
  have n6 := cell_ne d L (show oSem 1 o2 ≠ oSem 0 z2 by decide)
  have n7 := cell_ne d L (show gSem ≠ iSem 0 z2 by decide)
  have n8 := cell_ne d L (show gSem ≠ iSem 1 o2 by decide)
  have n9 := cell_ne d L (show gSem ≠ oSem 0 z2 by decide)
  have n10 := cell_ne d L (show gSem ≠ oSem 1 o2 by decide)
  unfold SparseCore.Cfg.ownSems0
  rw [SparseCore.bigSep_erase' a0, SparseCore.bigSep_erase' (Finset.mem_erase.mpr ⟨n1, a1⟩),
    SparseCore.bigSep_erase' (Finset.mem_erase.mpr ⟨n3, Finset.mem_erase.mpr ⟨n2, b0⟩⟩),
    SparseCore.bigSep_erase' (Finset.mem_erase.mpr ⟨n6, Finset.mem_erase.mpr ⟨n5, Finset.mem_erase.mpr ⟨n4, b1⟩⟩⟩),
    SparseCore.bigSep_erase' (Finset.mem_erase.mpr ⟨n10, Finset.mem_erase.mpr ⟨n9, Finset.mem_erase.mpr ⟨n8, Finset.mem_erase.mpr ⟨n7, g0⟩⟩⟩⟩)]

/-- The index buffer and the row buffer are among the tile's own. -/
theorem ownBufs_tile :
    (ownBufs (V d (cV L) (jV L)) : sProp 𝕄)
      = iprop((∃ f, isV.view.loc (V d (cV L) (jV L)) ↦{fullShare} f) ∗ (∃ f, rsV.view.loc (V d (cV L) (jV L)) ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  have a : (Proc.scVector (cV L) (jV L)).devRef cc0_scoped0 ∈ ownRefs (τ := τ) (sig := sig) (.scVector (cV L) (jV L)) :=
    SparseCore.Cfg.mem_ownRefs_of_owner (p := Proc.scVector (cV L) (jV L)) rfl
  have b : (Proc.scVector (cV L) (jV L)).devRef cc0_scoped2 ∈ ownRefs (τ := τ) (sig := sig) (.scVector (cV L) (jV L)) :=
    SparseCore.Cfg.mem_ownRefs_of_owner (p := Proc.scVector (cV L) (jV L)) rfl
  have n : (Proc.scVector (cV L) (jV L)).devRef cc0_scoped2 ≠ (Proc.scVector (cV L) (jV L)).devRef cc0_scoped0 :=
    fun e => absurd (Proc.devRef_injective _ e) (show (cc0_scoped2 : Ref sig .scVector) ≠ cc0_scoped0 by decide)
  unfold SparseCore.Cfg.ownBufs
  refine (SparseCore.bigSep_erase' a).trans ?_
  rw [SparseCore.bigSep_erase' (Finset.mem_erase.mpr ⟨n, b⟩)]

/-! A buffer of two slots is its slots. -/

theorem pts_iSlot (p : Nat) (hp : p < 2) (f : S2x1x128.Idx → Elt F .i32) :
    ((iSlot p hp).view.loc (V d (cV L) (jV L)) ↦[(iSlot p hp).view.set]{fullShare} f : sProp 𝕄) = isV.view.loc (V d (cV L) (jV L)) ↦[iS p]{fullShare} f :=
  congrArg (fun I : Finset S2x1x128.Idx => (isV.view.loc (V d (cV L) (jV L)) ↦[I]{fullShare} f : sProp 𝕄)) (set_iSlot p hp)
theorem pts_isV (f : S2x1x128.Idx → Elt F .i32) :
    (isV.view.loc (V d (cV L) (jV L)) ↦{fullShare} f : sProp 𝕄) = isV.view.loc (V d (cV L) (jV L)) ↦[iS 0 ∪ iS 1]{fullShare} f := by rw [iS_union]
theorem split_isV : iprop(∃ f, isV.view.loc (V d (cV L) (jV L)) ↦{fullShare} f) ⊢ iprop(iFree (F := F) d L 0 ∗ iFree (F := F) d L 1) := by
  unfold iFree
  iintro ⟨%f, H⟩
  ihave H := (Entails.of_eq (pts_isV d L f)) $$ H
  ihave H := (pointsTo_union iS_disj).1 $$ H
  icases H with ⟨H0, H1⟩
  isplitl [H0]
  · iexists f; iapply (Entails.of_eq (pts_iSlot d L 0 z2 f).symm); iexact H0
  · iexists f; iapply (Entails.of_eq (pts_iSlot d L 1 o2 f).symm); iexact H1
theorem join_isV : iprop(iFree (F := F) d L 0 ∗ iFree (F := F) d L 1) ⊢ iprop(∃ f, isV.view.loc (V d (cV L) (jV L)) ↦{fullShare} f) := by
  unfold iFree
  iintro ⟨⟨%f, H0⟩, %g, H1⟩
  ihave H0 := (Entails.of_eq (pts_iSlot d L 0 z2 f)) $$ H0
  ihave H1 := (Entails.of_eq (pts_iSlot d L 1 o2 g)) $$ H1
  ihave H := (pointsTo_join (ℓ := isV.view.loc (V d (cV L) (jV L))) (I := iS 0) (J := iS 1) iS_disj) $$ [H0 H1]
  · isplitl [H0]; · iexact H0
    iexact H1
  iexists _
  iapply (Entails.of_eq (pts_isV d L _).symm); iexact H

theorem pts_rSlot (p : Nat) (hp : p < 2) (f : S2x128x128.Idx → Elt F .f32) :
    ((rSlot p hp).view.loc (V d (cV L) (jV L)) ↦[(rSlot p hp).view.set]{fullShare} f : sProp 𝕄) = rsV.view.loc (V d (cV L) (jV L)) ↦[rS p]{fullShare} f :=
  congrArg (fun I : Finset S2x128x128.Idx => (rsV.view.loc (V d (cV L) (jV L)) ↦[I]{fullShare} f : sProp 𝕄)) (set_rSlot p hp)
theorem pts_rsV (f : S2x128x128.Idx → Elt F .f32) :
    (rsV.view.loc (V d (cV L) (jV L)) ↦{fullShare} f : sProp 𝕄) = rsV.view.loc (V d (cV L) (jV L)) ↦[rS 0 ∪ rS 1]{fullShare} f := by rw [rS_union]
theorem split_rsV : iprop(∃ f, rsV.view.loc (V d (cV L) (jV L)) ↦{fullShare} f) ⊢ iprop(rFree (F := F) d L 0 ∗ rFree (F := F) d L 1) := by
  unfold rFree
  iintro ⟨%f, H⟩
  ihave H := (Entails.of_eq (pts_rsV d L f)) $$ H
  ihave H := (pointsTo_union rS_disj).1 $$ H
  icases H with ⟨H0, H1⟩
  isplitl [H0]
  · iexists f; iapply (Entails.of_eq (pts_rSlot d L 0 z2 f).symm); iexact H0
  · iexists f; iapply (Entails.of_eq (pts_rSlot d L 1 o2 f).symm); iexact H1
theorem join_rsV : iprop(rFree (F := F) d L 0 ∗ rFree (F := F) d L 1) ⊢ iprop(∃ f, rsV.view.loc (V d (cV L) (jV L)) ↦{fullShare} f) := by
  unfold rFree
  iintro ⟨⟨%f, H0⟩, %g, H1⟩
  ihave H0 := (Entails.of_eq (pts_rSlot d L 0 z2 f)) $$ H0
  ihave H1 := (Entails.of_eq (pts_rSlot d L 1 o2 g)) $$ H1
  ihave H := (pointsTo_join (ℓ := rsV.view.loc (V d (cV L) (jV L))) (I := rS 0) (J := rS 1) rS_disj) $$ [H0 H1]
  · isplitl [H0]; · iexact H0
    iexact H1
  iexists _
  iapply (Entails.of_eq (pts_rsV d L _).symm); iexact H

/-- No block written yet. -/
theorem oNew_nil : (emp : sProp 𝕄) ⊢ oNew d L Tb X (baseBlk L) (baseBlk L + (0 - 1)) := by
  have e : oR (baseBlk L) (baseBlk L + (0 - 1)) = ∅ := oR_empty _
  unfold oNew
  exact Entails.of_eq (pointsTo_empty.symm.trans (congrArg (fun I : Finset S1048576x128.Idx => (oV.view.loc (V d (cV L) (jV L)) ↦[I]{fullShare} Gout Tb X : sProp 𝕄)) e.symm))

theorem iPart_zero : iFly d L X 0 (by decide) ⊢ iPart d L X 0 := Entails.of_eq (dif_pos (show 0 < 256 by decide)).symm

/-- After the last trip: nothing left to fetch, the last block's write-out in flight. -/
theorem inv_end (acc : BitVec 32 × BitVec 32 × BitVec 32 × BitVec 32 × BitVec 32) :
    inv d L Tb X q O W₀ k0_t1_loop.trips acc
      ⊢ iprop(⌜acc = carry 256⌝ ∗ owed (F := F) d L O W₀ ∗ gZero (F := F) d L ∗ (iFree (F := F) d L 0 ∗ iZero (F := F) d L 0)
        ∗ iFree (F := F) d L 1 ∗ iZero (F := F) d L 1 ∗ rFree (F := F) d L 0 ∗ oZero (F := F) d L 0 ∗ oFly d L Tb X 255
        ∗ oNew d L Tb X (baseBlk L) (baseBlk L + 255)) := by
  rw [trips_eq]
  unfold inv
  have e1 : iPart d L X 256 = iprop(iFree (F := F) d L 256 ∗ iZero (F := F) d L 256) := dif_neg (by decide)
  have e2 : oPart d L Tb X 256 = oFly d L Tb X 255 := if_neg (by decide)
  rw [e1, e2]
  iintro ⟨%h, HO, -, Hg, ⟨Hf0, Hi0⟩, Hf1, Hi1, -, Hr, Ho, Hfl, -, Hn⟩
  isplitr; · ipureintro; exact h
  isplitl [HO]; · iexact HO
  isplitl [Hg]; · iexact Hg
  isplitl [Hf0 Hi0]
  · isplitl [Hf0]; · iexact Hf0
    iexact Hi0
  isplitl [Hf1]; · iexact Hf1
  isplitl [Hi1]; · iexact Hi1
  isplitl [Hr]; · iexact Hr
  isplitl [Ho]; · iexact Ho
  isplitl [Hfl]; · iexact Hfl
  iexact Hn

/-! ## The task -/

set_option maxHeartbeats 8000000 in
/-- The task on tile `L`: handed its share of the table, its blocks of the index list and of the result, it brings back
    its blocks of the result at the rows the list names. -/
theorem tile_body (hF : (K (F := F)).Facts) (hX : ∀ j, (X j : BitVec 32).toNat < 129920) (hO : ∀ g, O g none = 0) :
    iprop(levAts (K (F := F)).L (K (F := F)).lev ∗ emp
        ∗ (tPts d L Tb q ∗ xPts d L X (baseBlk L) (baseBlk L + 256) ∗ oOld (F := F) d L (baseBlk L) (baseBlk L + 256))
        ∗ scopedBufs (V d (cV L) (jV L)) ∗ scopedSems0 (V d (cV L) (jV L)) ∗ owes (V d (cV L) (jV L)) O W₀)
      ⊢ wp frame (wpE (defs₀ (F := F)) 𝒱₀ (V d (cV L) (jV L)) none) Set.univ
          (cc0_gather_kernel L tV (Memref.isWhole_whole _) xV (Memref.isWhole_whole _) oV (Memref.isWhole_whole _)
            isV (Memref.isWhole_whole _) cc0_scoped1 rsV (Memref.isWhole_whole _) cc0_scoped3 cc0_scoped4)
          fun _ => iprop(oNew d L Tb X (baseBlk L) (baseBlk L + 256)
            ∗ scopedBufs (V d (cV L) (jV L)) ∗ scopedSems0 (V d (cV L) (jV L))
            ∗ ∃ W', ⌜∀ p ∈ W', p ∈ W₀ ∨ p.2 = none⌝ ∗ owes (V d (cV L) (jV L)) O W') := by
  have hk5 := chk5_ok L
  have hk4 := chk4_ok
  rw [(K (F := F)).scopedBufs_V hF d (cV L) (jV L), SparseCore.Cfg.scopedSems0_V (Val := Elt F) d (cV L) (jV L), ownSems0_tile, ownBufs_tile]
  iintro ⟨#Hlv, -, ⟨Ht, Hx, Ho⟩, ⟨Hi, Hr, Hbufs⟩, ⟨Hi0, Hi1, Ho0, Ho1, Hg, Hsems⟩, HO⟩
  ihave Hi := (split_isV (F := F) d L) $$ Hi
  icases Hi with ⟨Hf0, Hf1⟩
  ihave Hr := (split_rsV (F := F) d L) $$ Hr
  icases Hr with ⟨Hr0, Hr1⟩
  ihave Hx := (xPts_split d L X (a := baseBlk L) (b := baseBlk L + 1) (c := baseBlk L + 256) (by omega) (by omega)) $$ Hx
  icases Hx with ⟨Hxb, Hx⟩
  ihave Hi0 := (Entails.of_eq (show (semVal (cell d L (iSem 0 z2)) 0 : sProp 𝕄) = iZero d L 0 from rfl)) $$ Hi0
  ihave Hi1 := (Entails.of_eq (show (semVal (cell d L (iSem 1 o2)) 0 : sProp 𝕄) = iZero d L 1 from rfl)) $$ Hi1
  ihave Ho0 := (Entails.of_eq (show (semVal (cell d L (oSem 0 z2)) 0 : sProp 𝕄) = oZero d L 0 from rfl)) $$ Ho0
  ihave Ho1 := (Entails.of_eq (show (semVal (cell d L (oSem 1 o2)) 0 : sProp 𝕄) = oZero d L 1 from rfl)) $$ Ho1
  ihave Hg := (Entails.of_eq (show (semVal (cell d L gSem) 0 : sProp 𝕄) = gZero d L from rfl)) $$ Hg
  ihave HO := (show iprop(levAts (K (F := F)).L (K (F := F)).lev ∗ owes (V d (cV L) (jV L)) O W₀) ⊢ owed (F := F) d L O W₀ from by
    unfold owed
    iintro ⟨#Hlv, HO⟩
    isplitr; · iexact Hlv
    iexists W₀; isplitr; swap; · iexact HO
    ipureintro; exact fun p hp => .inl hp) $$ [HO]
  · isplitr; · iexact Hlv
    iexact HO
  simp only [cc0_gather_kernel_eq_skeleton]
  unfold cc0_gather_kernel_skel
  simp only [k0_part3_eq_skeleton, k0_part4_eq_skeleton]
  unfold k0_part3_skel k0_part4_skel
  sl_exec
  iapply (dma_i d L X 0 (by decide) (hs := iBlk_eq _ (off2_val L) _) (hd := iSlot_eq (p := 0 % 2) _ (by decide) _) (hm := iSem_eq (p := 0 % 2) _ (by decide) _)) $$ [Hf0 Hi0 Hxb]
  · isplitl [Hf0]; · iexact Hf0
    isplitl [Hi0]; · iexact Hi0
    iexact Hxb
  iintro Hfl
  sl_exec
  irw [bind_assoc]
  sl_for (inv d L Tb X q O W₀) $$ [HO Ht Hg Hfl Hf1 Hi1 Hx Hr0 Ho0 Hr1 Ho1 Ho]
  case region =>
    intro t acc
    exact trip d L Tb X q O W₀ hO hX _ (by revert L; decide +kernel) t acc
  · unfold inv
    isplitr; · ipureintro; rfl
    isplitl [HO]; · iexact HO
    isplitl [Ht]; · iexact Ht
    isplitl [Hg]; · iexact Hg
    isplitl [Hfl]; · iapply (iPart_zero d L X); iexact Hfl
    isplitl [Hf1]; · iexact Hf1
    isplitl [Hi1]; · iexact Hi1
    isplitl [Hx]; · iexact Hx
    isplitl [Hr0]; · iexact Hr0
    isplitl [Ho0]; · iexact Ho0
    isplitl [Hr1 Ho1]
    · iapply (Entails.of_eq (show iprop(rFree (F := F) d L 1 ∗ oZero (F := F) d L 1) = oPart d L Tb X 0 from (if_pos rfl).symm))
      isplitl [Hr1]; · iexact Hr1
      iexact Ho1
    isplitl [Ho]; · iexact Ho
    iapply (oNew_nil d L Tb X); iempintro
  iintro %acc HI
  ihave HI := (inv_end d L Tb X q O W₀ acc) $$ HI
  icases HI with ⟨%hacc, HO, Hg, ⟨Hf0, Hi0⟩, Hf1, Hi1, Hr0, Ho0, Hfl, Hn⟩
  subst hacc
  unfold carry
  sl_exec
  iapply (wait_o d L Tb X O W₀ 255 hO (hb := blk_ok L (n := 255) (by decide)) (hd := oBlk_eq _ (off19_val L) _) (hm := oSem_eq (p := 255 % 2) _ off20_val _)) $$ [Hfl HO]
  · isplitl [Hfl]; · iexact Hfl
    iexact HO
  iintro ⟨⟨Hb, Hr1⟩, Ho1, HO⟩
  sl_exec
  sl_step
  ihave Hr1 := (Entails.of_eq (show rFree (F := F) d L 255 = rFree d L 1 from rfl)) $$ Hr1
  ihave Ho1 := (Entails.of_eq (show oZero (F := F) d L 255 = oZero d L 1 from rfl)) $$ Ho1
  ihave Hi := (join_isV (F := F) d L) $$ [Hf0 Hf1]
  · isplitl [Hf0]; · iexact Hf0
    iexact Hf1
  ihave Hr := (join_rsV (F := F) d L) $$ [Hr0 Hr1]
  · isplitl [Hr0]; · iexact Hr0
    iexact Hr1
  isplitl [Hn Hb]
  · iapply (oNew_join d L Tb X (a := baseBlk L) (b := baseBlk L + 255) (c := baseBlk L + 256) (by omega) (by omega))
    isplitl [Hn]; · iexact Hn
    iexact Hb
  isplitl [Hi Hr Hbufs]
  · isplitl [Hi]; · iexact Hi
    isplitl [Hr]; · iexact Hr
    iexact Hbufs
  isplitr [HO]
  · isplitl [Hi0]
    · iapply (Entails.of_eq (show iZero (F := F) d L 0 = (semVal (cell d L (iSem 0 z2)) 0 : sProp 𝕄) from rfl)); iexact Hi0
    isplitl [Hi1]
    · iapply (Entails.of_eq (show iZero (F := F) d L 1 = (semVal (cell d L (iSem 1 o2)) 0 : sProp 𝕄) from rfl)); iexact Hi1
    isplitl [Ho0]
    · iapply (Entails.of_eq (show oZero (F := F) d L 0 = (semVal (cell d L (oSem 0 z2)) 0 : sProp 𝕄) from rfl)); iexact Ho0
    isplitl [Ho1]
    · iapply (Entails.of_eq (show oZero (F := F) d L 1 = (semVal (cell d L (oSem 1 o2)) 0 : sProp 𝕄) from rfl)); iexact Ho1
    isplitl [Hg]
    · iapply (Entails.of_eq (show gZero (F := F) d L = (semVal (cell d L gSem) 0 : sProp 𝕄) from rfl)); iexact Hg
    iexact Hsems
  iapply (show owed (F := F) d L O W₀ ⊢ iprop(∃ W', ⌜∀ p ∈ W', p ∈ W₀ ∨ p.2 = none⌝ ∗ owes (V d (cV L) (jV L)) O W') from by
    unfold owed
    iintro ⟨-, H⟩
    iexact H)
  iexact HO

end Cert.Proof.Tile

end
-- ==== Proof.Launch.lean ====
/-
  The SparseCore launch: what each SparseCore and each tile is handed and brings back, and the tiles' obligation.
-/
module

public import proofs.«01_k».proof.Proof.Tile

@[expose] public section

noncomputable section

namespace Cert.Proof

open Cert.KernelIdeal Cert.KernelIdeal.Gen Cert.Proof.Tile
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 1) (Elt F) ℕ UU ℕ

/-! ## The tiles, and the share of the table each gets -/

/-- The coordinates of tile `s` of SparseCore `c`. -/
def tileAt (c : Fin 2) (s : Fin 16) : grid0.Coords :=
  fun | 0 => c | 1 => s | ⟨_ + 2, h⟩ => absurd h (Nat.not_lt.2 (Nat.le_add_left _ _))

/-- What is left of share `q` after `n` halvings that each give the left half away. -/
def rest (q : PosShare TreeShare) : Nat → PosShare TreeShare
  | 0 => q
  | n + 1 => (rest q n).right
/-- The `n`th half given away. -/
def given (q : PosShare TreeShare) (n : Nat) : PosShare TreeShare := (rest q n).left

/-- The share of the table for tile `s` of SparseCore `c`. -/
def tq (c : Fin 2) (s : Fin 16) : PosShare TreeShare := given (given fullShare c.val) s.val

theorem give {ℓ : Loc nD τ sig} (f : Buf (Elt F) ℓ) (q : PosShare TreeShare) : ∀ n : Nat,
    (ℓ ↦{q} f : sProp 𝕄) ⊢ iprop((bigSep Finset.univ fun i : Fin n => ℓ ↦{given q i.val} f) ∗ ℓ ↦{rest q n} f)
  | 0 => by
    rw [show (bigSep Finset.univ fun i : Fin 0 => (ℓ ↦{given q i.val} f : sProp 𝕄)) = iprop(emp) from by rw [Finset.univ_eq_empty, bigSep_empty]; rfl]
    iintro H
    isplitr; · iempintro
    iexact H
  | n + 1 => by
    refine (give f q n).trans ?_
    have e : (bigSep Finset.univ fun i : Fin (n + 1) => (ℓ ↦{given q i.val} f : sProp 𝕄))
        = iprop((ℓ ↦{given q n} f) ∗ bigSep Finset.univ fun i : Fin n => (ℓ ↦{given q i.val} f : sProp 𝕄)) := by
      rw [Fin.univ_castSuccEmb, Finset.cons_eq_insert, bigSep_insert (by simp [Fin.castSucc_ne_last]), bigSep_map]
      rfl
    rw [e]
    iintro ⟨H, Hr⟩
    ihave Hr := (pointsTo_share (PosShare.mem_left_op_right (rest q n))).1 $$ Hr
    icases Hr with ⟨Hl, Hr⟩
    isplitr [Hr]
    · isplitl [Hl]; · iexact Hl
      iexact H
    iexact Hr

/-! ## What is handed out and brought back -/

abbrev tLoc (d : Dev nD) : Loc nD τ sig := (SparseCore.T d).loc main_v3
abbrev xLoc (d : Dev nD) : Loc nD τ sig := (SparseCore.T d).loc main_v12
abbrev oLoc (d : Dev nD) : Loc nD τ sig := (SparseCore.T d).loc main_v15

variable (Tb : Dev nD → S129920x128.Idx → Elt F .f32) (X : Dev nD → S1x1048576.Idx → Elt F .i32)

/-- A tile's operands: its share of the table, its blocks of the index list, its blocks of the result. -/
def goT (d : Dev nD) (c : Fin 2) (s : Fin 16) : sProp 𝕄 :=
  iprop(tPts d (tileAt c s) (Tb d) (tq c s) ∗ xPts d (tileAt c s) (X d) (baseBlk (tileAt c s)) (baseBlk (tileAt c s) + 256)
    ∗ oOld (F := F) d (tileAt c s) (baseBlk (tileAt c s)) (baseBlk (tileAt c s) + 256))
/-- A tile's results: its blocks of the result, gathered. -/
def tdT (d : Dev nD) (c : Fin 2) (s : Fin 16) : sProp 𝕄 :=
  oNew d (tileAt c s) (Tb d) (X d) (baseBlk (tileAt c s)) (baseBlk (tileAt c s) + 256)

instance tPts_storable (d : Dev nD) (L : grid0.Coords) (t : S129920x128.Idx → Elt F .f32) (q : PosShare TreeShare) :
    BI.Storable (upEmb : UEmb _ 𝕄) (tPts d L t q) := by unfold tPts; infer_instance
instance xPts_storable (d : Dev nD) (L : grid0.Coords) (x : S1x1048576.Idx → Elt F .i32) (a b : Nat) :
    BI.Storable (upEmb : UEmb _ 𝕄) (xPts d L x a b) := by unfold xPts; infer_instance
instance oOld_storable (d : Dev nD) (L : grid0.Coords) (a b : Nat) :
    BI.Storable (upEmb : UEmb _ 𝕄) (oOld (F := F) d L a b) := by
  unfold oOld
  have : ∀ f, BI.Storable (upEmb : UEmb _ 𝕄) (oV.view.loc (V d (cV L) (jV L)) ↦[oR a b]{fullShare} f) := fun f => inferInstance
  exact BI.Storable.exists _ _
instance goT_storable (d : Dev nD) (c : Fin 2) (s : Fin 16) : BI.Storable (upEmb : UEmb _ 𝕄) (goT Tb X d c s) := by
  unfold goT; infer_instance
instance tdT_storable (d : Dev nD) (c : Fin 2) (s : Fin 16) : BI.Storable (upEmb : UEmb _ 𝕄) (tdT Tb X d c s) := by
  unfold tdT oNew; infer_instance

def P : (K (F := F)).Pay (nD := nD) (Val := Elt F) (Name := ℕ) (U := UU) where
  st := fun q d c => match q with | 0 => bigSep Finset.univ fun s : Fin 16 => goT Tb X d c s
  dn := fun q d c => match q with | 0 => bigSep Finset.univ fun s : Fin 16 => tdT Tb X d c s
  go := fun q d c s => match q with | 0 => goT Tb X d c s
  td := fun q d c s => match q with | 0 => tdT Tb X d c s
  x := fun _ _ => iprop(emp)

instance P_storable : (P (F := F) Tb X).IsStorable where
  st q d c := match q with
    | 0 => (inferInstance : BI.Storable (upEmb : UEmb _ 𝕄) (bigSep Finset.univ fun s : Fin 16 => goT Tb X d c s))
  dn q d c := match q with
    | 0 => (inferInstance : BI.Storable (upEmb : UEmb _ 𝕄) (bigSep Finset.univ fun s : Fin 16 => tdT Tb X d c s))
  go q d c s := match q with
    | 0 => (inferInstance : BI.Storable (upEmb : UEmb _ 𝕄) (goT Tb X d c s))
  td q d c s := match q with
    | 0 => (inferInstance : BI.Storable (upEmb : UEmb _ 𝕄) (tdT Tb X d c s))

theorem vecSplit : (K (F := F)).VecSplit' (P Tb X) 0 := by
  intro d c
  show (bigSep Finset.univ fun s : Fin 16 => goT Tb X d c s)
    ⊢ |={Set.univ}=> iprop((bigSep Finset.univ fun s : Fin 16 => goT Tb X d c s)
      ∗ ((bigSep Finset.univ fun s : Fin 16 => tdT Tb X d c s) -∗ bigSep Finset.univ fun s : Fin 16 => tdT Tb X d c s))
  iintro H; imodintro
  isplitl [H]; · iexact H
  iintro H; iexact H

/-! ## The obligation of a tile -/

theorem defs₀_vector (c : Fin τ.nSC) (s : Fin τ.nSub) :
    defs₀ (F := F) (.scVector c s) 0 ()
      = SparseCore.onTile hcore0 hsub0 (fun c s => cc0_gather_kernel (tileAt c s) tV (Memref.isWhole_whole _) xV (Memref.isWhole_whole _)
          oV (Memref.isWhole_whole _) isV (Memref.isWhole_whole _) cc0_scoped1 rsV (Memref.isWhole_whole _) cc0_scoped3 cc0_scoped4) ⟨⟩ c s := rfl

theorem weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr; · ipureintro; exact fun p hp => (h p hp).imp_right .inl
  iexact HO

set_option maxRecDepth 16384 in
theorem tileObl (hX : ∀ d j, (X d j : BitVec 32).toNat < 129920) : (K (F := F)).TileObl (D (F := F)) 𝒱 (P Tb X) v₀ 0 := by
  intro d c i O W hO _ _
  simp only [show (P Tb X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (tileAt ⟨_, hci.1⟩ ⟨_, hci.2⟩) (Tb d) (X d) (tq c i) O W facts (hX d) hO).trans (wp_mono frame _ _ fun _ => weaken)

/-! ## The whole arrays dealt to the tiles, and the result put together -/

theorem base_at (c : Fin 2) (s : Fin 16) : baseBlk (tileAt c s) = (s.val + 16 * c.val) * 256 := rfl

theorem tiles_disj {β : Type} [DecidableEq β] (R : Nat → Nat → Finset β) (hR : ∀ a b a' b', b ≤ a' → Disjoint (R a b) (R a' b')) :
    ∀ w ∈ (Finset.univ : Finset (Fin 2 × Fin 16)), ∀ w' ∈ (Finset.univ : Finset (Fin 2 × Fin 16)), w ≠ w' →
      Disjoint (R (baseBlk (tileAt w.1 w.2)) (baseBlk (tileAt w.1 w.2) + 256)) (R (baseBlk (tileAt w'.1 w'.2)) (baseBlk (tileAt w'.1 w'.2) + 256)) := by
  rintro ⟨c, s⟩ - ⟨c', s'⟩ - hne
  rw [base_at, base_at]
  have hne' : s.val + 16 * c.val ≠ s'.val + 16 * c'.val := by
    intro h; apply hne
    have := s.isLt; have := s'.isLt
    exact Prod.ext (Fin.ext (by show c.val = c'.val; omega)) (Fin.ext (by show s.val = s'.val; omega))
  rcases Nat.lt_or_gt_of_ne hne' with h | h
  · exact hR _ _ _ _ (by dsimp only; omega)
  · exact (hR _ _ _ _ (by dsimp only; omega)).symm

theorem oR_all : (Finset.univ : Finset (Fin 2 × Fin 16)).biUnion (fun w => oR (baseBlk (tileAt w.1 w.2)) (baseBlk (tileAt w.1 w.2) + 256)) = Finset.univ := by
  ext x
  simp only [Finset.mem_biUnion, Finset.mem_univ, true_and, iff_true]
  have h : (x 0).val < 1048576 := (x 0).isLt
  refine ⟨⟨⟨(x 0).val / 524288, by omega⟩, ⟨(x 0).val / 32768 % 16, by omega⟩⟩, ?_⟩
  rw [base_at, mem_oR]; dsimp only; omega
theorem iR_all : (Finset.univ : Finset (Fin 2 × Fin 16)).biUnion (fun w => iR (baseBlk (tileAt w.1 w.2)) (baseBlk (tileAt w.1 w.2) + 256)) = Finset.univ := by
  ext x
  simp only [Finset.mem_biUnion, Finset.mem_univ, true_and, iff_true]
  have h : (x 1).val < 1048576 := (x 1).isLt
  refine ⟨⟨⟨(x 1).val / 524288, by omega⟩, ⟨(x 1).val / 32768 % 16, by omega⟩⟩, ?_⟩
  rw [base_at, mem_iR]; dsimp only; omega

theorem oR_apart (a b a' b' : Nat) (h : b ≤ a') : Disjoint (oR a b) (oR a' b') := by
  rw [Finset.disjoint_left]; intro x hx hx'; rw [mem_oR] at hx hx'; omega
theorem iR_apart (a b a' b' : Nat) (h : b ≤ a') : Disjoint (iR a b) (iR a' b') := by
  rw [Finset.disjoint_left]; intro x hx hx'; rw [mem_iR] at hx hx'; omega

theorem out_tiles (d : Dev nD) (f : Buf (Elt F) (oLoc d)) :
    (oLoc d ↦{fullShare} f : sProp 𝕄)
      = bigSep Finset.univ fun c : Fin 2 => bigSep Finset.univ fun s : Fin 16 => oLoc d ↦[oR (baseBlk (tileAt c s)) (baseBlk (tileAt c s) + 256)]{fullShare} f := by
  rw [← bigSep_univ_prod (fun w : Fin 2 × Fin 16 => (oLoc d ↦[oR (baseBlk (tileAt w.1 w.2)) (baseBlk (tileAt w.1 w.2) + 256)]{fullShare} f : sProp 𝕄)),
    ← pointsTo_biUnion (ℓ := oLoc d) Finset.univ (fun w : Fin 2 × Fin 16 => oR (baseBlk (tileAt w.1 w.2)) (baseBlk (tileAt w.1 w.2) + 256)) (tiles_disj oR oR_apart), oR_all]
theorem idx_tiles (d : Dev nD) (f : Buf (Elt F) (xLoc d)) :
    (xLoc d ↦{fullShare} f : sProp 𝕄)
      = bigSep Finset.univ fun c : Fin 2 => bigSep Finset.univ fun s : Fin 16 => xLoc d ↦[iR (baseBlk (tileAt c s)) (baseBlk (tileAt c s) + 256)]{fullShare} f := by
  rw [← bigSep_univ_prod (fun w : Fin 2 × Fin 16 => (xLoc d ↦[iR (baseBlk (tileAt w.1 w.2)) (baseBlk (tileAt w.1 w.2) + 256)]{fullShare} f : sProp 𝕄)),
    ← pointsTo_biUnion (ℓ := xLoc d) Finset.univ (fun w : Fin 2 × Fin 16 => iR (baseBlk (tileAt w.1 w.2)) (baseBlk (tileAt w.1 w.2) + 256)) (tiles_disj iR iR_apart), iR_all]
theorem tab_tiles (d : Dev nD) (f : Buf (Elt F) (tLoc d)) :
    (tLoc d ↦{fullShare} f : sProp 𝕄) ⊢ bigSep Finset.univ fun c : Fin 2 => bigSep Finset.univ fun s : Fin 16 => tLoc d ↦{tq c s} f := by
  refine ((give f fullShare 2).trans sep_elim_left).trans (bigSep_mono fun c _ => ?_)
  exact (give f (given fullShare c.val) 16).trans sep_elim_left

/-- The call's operands out of the whole table, index list and result array. -/
theorem operands (d : Dev nD) (f : Buf (Elt F) (oLoc d)) :
    iprop((tLoc d ↦{fullShare} Tb d) ∗ (xLoc d ↦{fullShare} X d) ∗ oLoc d ↦{fullShare} f)
      ⊢ (bigSep Finset.univ fun c : Fin ((K (F := F)).nCore 0) => (P Tb X).st 0 d c : sProp 𝕄) := by
  show _ ⊢ (bigSep Finset.univ fun c : Fin 2 => bigSep Finset.univ fun s : Fin 16 => goT Tb X d c s : sProp 𝕄)
  unfold goT
  simp only [bigSep_sep']
  iintro ⟨Ht, Hx, Ho⟩
  isplitl [Ht]; · iapply (tab_tiles d (Tb d)); iexact Ht
  isplitl [Hx]; · iapply (Entails.of_eq (idx_tiles d (X d))); iexact Hx
  ihave Ho := (Entails.of_eq (out_tiles d f)) $$ Ho
  iapply (show (bigSep Finset.univ fun c : Fin 2 => bigSep Finset.univ fun s : Fin 16 => (oLoc d ↦[oR (baseBlk (tileAt c s)) (baseBlk (tileAt c s) + 256)]{fullShare} f : sProp 𝕄))
      ⊢ bigSep Finset.univ fun c : Fin 2 => bigSep Finset.univ fun s : Fin 16 => oOld (F := F) d (tileAt c s) (baseBlk (tileAt c s)) (baseBlk (tileAt c s) + 256) from
    bigSep_mono fun c _ => bigSep_mono fun s _ => by
      unfold oOld
      exact exists_intro (PROP := sProp (MM F)) (Φ := fun f => (oV.view.loc (V d (cV (tileAt c s)) (jV (tileAt c s))) ↦[oR (baseBlk (tileAt c s)) (baseBlk (tileAt c s) + 256)]{fullShare} f : sProp 𝕄)) f)
  iexact Ho

/-- The result array out of the call's results. -/
theorem results (d : Dev nD) :
    (bigSep Finset.univ fun c : Fin ((K (F := F)).nCore 0) => (P Tb X).dn 0 d c : sProp 𝕄) ⊢ oLoc d ↦{fullShare} Gout (Tb d) (X d) := by
  rw [out_tiles]
  exact Entails.of_eq rfl

end Cert.Proof

end
-- ==== Proof.Host.lean ====
/-
  The host's program around the SparseCore call and the two dense passes: its operations as two lists, and the buffers'
  contents from point to point.
-/
module

public import proofs.«01_k».proof.Proof.Regions
public import proofs.«01_k».proof.Proof.Launch

@[expose] public section

set_option maxRecDepth 16384

noncomputable section

namespace Cert.Proof

open Cert.KernelIdeal Cert.KernelIdeal.Gen Cert.Proof.Tile
open Idealize.ShloMosaic Idealize.ShloMosaic.TcCoe Idealize.ShloMosaic.StableHlo
open Idealize.ShloMosaic.SparseCore.Cfg (HIx)
open Idealize.SL Idealize.SL.Sem

variable {F : FTy → Type} [FloatOps F]

/-- The host's operations before the SparseCore call, in order. -/
abbrev ops0 : List (HloOp τ sig (Elt F)) :=
  [ reshape main_arg0 main_v0 (rfl : (.f32 : EltTy) = .f32) shapeCasts_S32x1x64x2030_S32x64x2030,
    reshape main_v0 main_v1 (rfl : (.f32 : EltTy) = .f32) shapeCasts_S32x64x2030_S32x129920,
    unary main_v1 main_v2 ((transpose S129920x32 [1, 0] · transposes_S32x129920_S129920x32_1_0) : (⟨S32x129920, .f32⟩ : BufTy).Contents (Elt F) → (⟨S129920x32, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S129920x32, .f32⟩) main_v2) (TRef.of (T := ⟨S_, .f32⟩) main_call0_v0) (TRef.of (T := ⟨S129920x128, .f32⟩) main_v3) (fun x v => pad S129920x128 ![0, 0] ![0, 96] ![0, 0] x v pads_S129920x32_S129920x128_000_0960 h_S_),
    nullary main_c_0 (constantI S_ 32 0#32),
    nullary main_c_1 (constantI S_ 32 2029#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S128x128x64, .i32⟩) main_call1_v1) (broadcastInDim S128x128x64 ![] bcast_S_S128x128x64),
    TRef.binary (TRef.of (T := ⟨S128x128x64, .i32⟩) main_call1_v1) (TRef.of (T := ⟨S128x128x64, .i32⟩) main_arg1) (TRef.of (T := ⟨S128x128x64, .i32⟩) main_call1_v2) maxsi,
    TRef.unary (TRef.of (T := ⟨S_, .i32⟩) main_c_1) (TRef.of (T := ⟨S_, .i32⟩) main_call1_v3) id,
    TRef.unary (TRef.of (T := ⟨S_, .i32⟩) main_call1_v3) (TRef.of (T := ⟨S128x128x64, .i32⟩) main_call1_v4) (broadcastInDim S128x128x64 ![] bcast_S_S128x128x64),
    TRef.binary (TRef.of (T := ⟨S128x128x64, .i32⟩) main_call1_v4) (TRef.of (T := ⟨S128x128x64, .i32⟩) main_call1_v2) (TRef.of (T := ⟨S128x128x64, .i32⟩) main_v4) minsi,
    unary main_v4 main_v5 ((transpose S64x128x128 [2, 0, 1] · transposes_S128x128x64_S64x128x128_2_0_1) : (⟨S128x128x64, .i32⟩ : BufTy).Contents (Elt F) → (⟨S64x128x128, .i32⟩ : BufTy).Contents (Elt F)),
    nullary main_v6 (iotaInDim S64 32 0),
    nullary main_c_2 (constantI S_ 32 2030#32),
    unary main_c_2 main_v7 (broadcastInDim S64 ![] bcast_S_S64 : (⟨S_, .i32⟩ : BufTy).Contents (Elt F) → (⟨S64, .i32⟩ : BufTy).Contents (Elt F)),
    binary main_v6 main_v7 main_v8 (muli : (⟨S64, .i32⟩ : BufTy).Contents (Elt F) → (⟨S64, .i32⟩ : BufTy).Contents (Elt F) → (⟨S64, .i32⟩ : BufTy).Contents (Elt F)),
    unary main_v8 main_v9 (broadcastInDim S64x1x1 ![0] bcast_S64_S64x1x1_0 : (⟨S64, .i32⟩ : BufTy).Contents (Elt F) → (⟨S64x1x1, .i32⟩ : BufTy).Contents (Elt F)),
    unary main_v9 main_v10 (broadcastInDim S64x128x128 ![0, 1, 2] bcast_S64x1x1_S64x128x128_0_1_2 : (⟨S64x1x1, .i32⟩ : BufTy).Contents (Elt F) → (⟨S64x128x128, .i32⟩ : BufTy).Contents (Elt F)),
    binary main_v5 main_v10 main_v11 (addi : (⟨S64x128x128, .i32⟩ : BufTy).Contents (Elt F) → (⟨S64x128x128, .i32⟩ : BufTy).Contents (Elt F) → (⟨S64x128x128, .i32⟩ : BufTy).Contents (Elt F)),
    reshape main_v11 main_v12 (rfl : (.i32 : EltTy) = .i32) shapeCasts_S64x128x128_S1x1048576,
    nullary main_cst (constant S_ .f32 0x00000000#32),
    TRef.unary (TRef.of (T := ⟨S_, .f32⟩) main_cst) (TRef.of (T := ⟨S_, .f32⟩) main_call2_v0) id,
    TRef.unary (TRef.of (T := ⟨S_, .f32⟩) main_call2_v0) (TRef.of (T := ⟨S128x128x64, .f32⟩) main_call2_v1) (broadcastInDim S128x128x64 ![] bcast_S_S128x128x64),
    TRef.ternary (TRef.of (T := ⟨S128x128x64, .i1⟩) main_arg3) (TRef.of (T := ⟨S128x128x64, .f32⟩) main_arg2) (TRef.of (T := ⟨S128x128x64, .f32⟩) main_call2_v1) (TRef.of (T := ⟨S128x128x64, .f32⟩) main_v13) select,
    unary main_v13 main_v14 ((transpose S64x128x128 [2, 0, 1] · transposes_S128x128x64_S64x128x128_2_0_1) : (⟨S128x128x64, .f32⟩ : BufTy).Contents (Elt F) → (⟨S64x128x128, .f32⟩ : BufTy).Contents (Elt F)) ]

theorem ops0_sub : (ops0 : List (HloOp τ sig (Elt F))).Forall fun op => op.bufs ⊆ tcRefs τ sig :=
  ⟨reshape_bufs_sub .., reshape_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., binary_bufs_sub .., unary_bufs_sub .., unary_bufs_sub .., binary_bufs_sub .., reshape_bufs_sub .., nullary_bufs_sub .., unary_bufs_sub .., unary_bufs_sub .., ternary_bufs_sub .., unary_bufs_sub ..⟩

/-- The host's operations between the SparseCore call and the two dense passes. -/
abbrev ops1 : List (HloOp τ sig (Elt F)) :=
  [ unary main_v15 main_v16 ((extractStridedSlice S1048576x32 ![0, 0] · slices_S1048576x128_S1048576x32_0_0) : (⟨S1048576x128, .f32⟩ : BufTy).Contents (Elt F) → (⟨S1048576x32, .f32⟩ : BufTy).Contents (Elt F)),
    reshape main_v16 main_v17 (rfl : (.f32 : EltTy) = .f32) shapeCasts_S1048576x32_S64x128x128x32 ]

theorem ops1_sub : (ops1 : List (HloOp τ sig (Elt F))).Forall fun op => op.bufs ⊆ tcRefs τ sig :=
  ⟨unary_bufs_sub .., reshape_bufs_sub ..⟩

/-- The two dense passes, as the program without SparseCore calls has them. -/
abbrev passes : Prog (TpuEff nD τ sig (Elt F) (ΛP (F := F)) .tc) PUnit :=
  .op (.customCall (Pipeline.entry 0) ()) fun _ => .op (.customCall (Pipeline.entry 1) ()) fun _ => .ret ⟨⟩

/-- @main in four parts. -/
theorem main_parts (d : Dev nD) : main (F := F) d
    = (seq ops0 >>= fun _ => ((K (F := F)).run d 0 >>= fun _ => (seq ops1 >>= fun _ => SparseCore.liftProg passes))) := by
  rw [seq_bind_seqK, seq_bind_seqK]; rfl

variable (m : (ℓ : Loc nD τ sig) → Buf (Elt F) ℓ)

/-- The host's buffers at the launch, -/
def W0 (d : Dev nD) : Valuation τ sig (Elt F) := fun b => m (d, b)
/-- before the SparseCore call, -/
def W1 (d : Dev nD) : Valuation τ sig (Elt F) := after ops0 (W0 m d)
/-- after it, -/
def W2 (d : Dev nD) : Valuation τ sig (Elt F) :=
  Function.update (W1 m d) (Proc.devRef .tc main_v15) (Gout (F := F) (W1 m d (Proc.devRef .tc main_v3)) (W1 m d (Proc.devRef .tc main_v12)))
/-- before the first dense pass, -/
def W3 (d : Dev nD) : Valuation τ sig (Elt F) := after ops1 (W2 m d)
/-- The same, by reference. -/
abbrev H3 : HostVal F := fun d b => W3 m d b
/-- after it, -/
def W4 (d : Dev nD) : Valuation τ sig (Elt F) :=
  Function.update (Function.update (W3 m d) (Proc.devRef .tc main_v18_0) ((Finish.dat (H3 m) d).arrAt 2 cfg1.N))
    (Proc.devRef .tc main_v18_1) ((Finish.dat (H3 m) d).arrAt 3 cfg1.N)
abbrev H4 : HostVal F := fun d b => W4 m d b
/-- and after the second. -/
def W5 (d : Dev nD) : Valuation τ sig (Elt F) :=
  Function.update (W4 m d) (Proc.devRef .tc main_v19) ((Norm.dat (H4 m) d).arrAt 1 cfg2.N)
abbrev H5 : HostVal F := fun d b => W5 m d b

theorem W2_out (d : Dev nD) : W2 m d (Proc.devRef .tc main_v15)
    = Gout (F := F) (W1 m d (Proc.devRef .tc main_v3)) (W1 m d (Proc.devRef .tc main_v12)) := Function.update_self ..
theorem W2_ne (d : Dev nD) (b : Ref sig .tc) (h : b ≠ main_v15) : W2 m d b = W1 m d b :=
  Function.update_of_ne (fun e => h (Proc.devRef_injective _ e)) ..
theorem H4_out0 (d : Dev nD) : H4 m d main_v18_0 = (Finish.dat (H3 m) d).arrAt 2 cfg1.N :=
  (Function.update_of_ne (fun e => absurd (Proc.devRef_injective _ e) (by decide)) ..).trans (Function.update_self ..)
theorem H4_out1 (d : Dev nD) : H4 m d main_v18_1 = (Finish.dat (H3 m) d).arrAt 3 cfg1.N := Function.update_self ..
theorem H4_ne (d : Dev nD) (b : Ref sig .tc) (h0 : b ≠ main_v18_0) (h1 : b ≠ main_v18_1) : H4 m d b = H3 m d b :=
  (Function.update_of_ne (fun e => h1 (Proc.devRef_injective _ e)) ..).trans
    (Function.update_of_ne (fun e => h0 (Proc.devRef_injective _ e)) ..)
theorem H5_out (d : Dev nD) : H5 m d main_v19 = (Norm.dat (H4 m) d).arrAt 1 cfg2.N := Function.update_self ..
theorem H5_ne (d : Dev nD) (b : Ref sig .tc) (h : b ≠ main_v19) : H5 m d b = H4 m d b :=
  Function.update_of_ne (fun e => h (Proc.devRef_injective _ e)) ..

/-! ## What the host's operations leave -/

theorem W1_tab (d : Dev nD) : W1 m d (Proc.devRef .tc main_v3)
    = pad S129920x128 ![0, 0] ![0, 96] ![0, 0]
        (transpose S129920x32 [1, 0]
          (shapeCast S32x129920 (shapeCast S32x64x2030 (m ((d : Thread nD τ).loc main_arg0)) shapeCasts_S32x1x64x2030_S32x64x2030) shapeCasts_S32x64x2030_S32x129920)
          transposes_S32x129920_S129920x32_1_0)
        (sitofp .f32 (constantI S_ 32 0#32)) pads_S129920x32_S129920x128_000_0960 h_S_ := by
  unfold W1
  simp only [ops0, TRef.binary, TRef.ternary, TRef.unary, TRef.toBuf, TRef.ofBuf, cast_eq]; after_results_simp <;> rfl

theorem W1_idx (d : Dev nD) : W1 m d (Proc.devRef .tc main_v12)
    = shapeCast S1x1048576
        (addi
          (transpose S64x128x128 [2, 0, 1]
            (minsi (broadcastInDim S128x128x64 ![] bcast_S_S128x128x64 (constantI S_ 32 2029#32))
              (maxsi (broadcastInDim S128x128x64 ![] bcast_S_S128x128x64 (constantI S_ 32 0#32)) (m ((d : Thread nD τ).loc main_arg1))))
            transposes_S128x128x64_S64x128x128_2_0_1)
          (broadcastInDim S64x128x128 ![0, 1, 2] bcast_S64x1x1_S64x128x128_0_1_2
            (broadcastInDim S64x1x1 ![0] bcast_S64_S64x1x1_0
              (muli (iotaInDim S64 32 0) (broadcastInDim S64 ![] bcast_S_S64 (constantI S_ 32 2030#32))))))
        shapeCasts_S64x128x128_S1x1048576 := by
  unfold W1
  simp only [ops0, TRef.binary, TRef.ternary, TRef.unary, TRef.toBuf, TRef.ofBuf, cast_eq]; after_results_simp <;> rfl

theorem W1_wts (d : Dev nD) : W1 m d (Proc.devRef .tc main_v14)
    = transpose S64x128x128 [2, 0, 1]
        (select (m ((d : Thread nD τ).loc main_arg3)) (m ((d : Thread nD τ).loc main_arg2))
          (broadcastInDim S128x128x64 ![] bcast_S_S128x128x64 (constant S_ .f32 0x00000000#32)))
        transposes_S128x128x64_S64x128x128_2_0_1 := by
  unfold W1
  simp only [ops0, TRef.binary, TRef.ternary, TRef.unary, TRef.toBuf, TRef.ofBuf, cast_eq]; after_results_simp <;> rfl

theorem W1_arg0 (d : Dev nD) : W1 m d (Proc.devRef .tc main_arg0) = m ((d : Thread nD τ).loc main_arg0) := by
  unfold W1
  simp only [ops0, TRef.binary, TRef.ternary, TRef.unary, TRef.toBuf, TRef.ofBuf, cast_eq]; after_results_simp <;> rfl
theorem W1_arg1 (d : Dev nD) : W1 m d (Proc.devRef .tc main_arg1) = m ((d : Thread nD τ).loc main_arg1) := by
  unfold W1
  simp only [ops0, TRef.binary, TRef.ternary, TRef.unary, TRef.toBuf, TRef.ofBuf, cast_eq]; after_results_simp <;> rfl
theorem W1_arg2 (d : Dev nD) : W1 m d (Proc.devRef .tc main_arg2) = m ((d : Thread nD τ).loc main_arg2) := by
  unfold W1
  simp only [ops0, TRef.binary, TRef.ternary, TRef.unary, TRef.toBuf, TRef.ofBuf, cast_eq]; after_results_simp <;> rfl
theorem W1_arg3 (d : Dev nD) : W1 m d (Proc.devRef .tc main_arg3) = m ((d : Thread nD τ).loc main_arg3) := by
  unfold W1
  simp only [ops0, TRef.binary, TRef.ternary, TRef.unary, TRef.toBuf, TRef.ofBuf, cast_eq]; after_results_simp <;> rfl

theorem H3_rows (d : Dev nD) : H3 m d main_v17
    = shapeCast S64x128x128x32
        (extractStridedSlice S1048576x32 ![0, 0]
          (Gout (F := F) (W1 m d (Proc.devRef .tc main_v3)) (W1 m d (Proc.devRef .tc main_v12))) slices_S1048576x128_S1048576x32_0_0)
        shapeCasts_S1048576x32_S64x128x128x32 := by
  rw [← W2_out]
  dsimp only [H3, W3]
  simp only [ops1]; after_results_simp <;> rfl

theorem H3_ne (d : Dev nD) (b : Ref sig .tc) (h15 : b ≠ main_v15) (h16 : b ≠ main_v16) (h17 : b ≠ main_v17) :
    H3 m d b = W1 m d b := by
  refine Eq.trans ?_ (W2_ne m d b h15)
  dsimp only [H3, W3]
  refine after_of_forall_not_mem _ _ (List.forall_iff_forall_mem.mp ?_)
  simp only [ops1, List.Forall, unary_writes, reshape_writes, Finset.mem_singleton]
  exact ⟨devRef_ne_of_ne h16, devRef_ne_of_ne h17⟩

/-- What the passes leave of a buffer neither they nor the call write. -/
theorem H5_keep (d : Dev nD) (b : Ref sig .tc) (h15 : b ≠ main_v15) (h16 : b ≠ main_v16) (h17 : b ≠ main_v17)
    (h0 : b ≠ main_v18_0) (h1 : b ≠ main_v18_1) (h : b ≠ main_v19) : H5 m d b = W1 m d b :=
  (H5_ne m d b h).trans ((H4_ne m d b h0 h1).trans (H3_ne m d b h15 h16 h17))

end Cert.Proof

end
-- ==== Proof.Main.lean ====
/-
  The whole program's run: the host's operations, the SparseCore call, the two dense passes, from any launch contents to
  the last pass's buffers, with every semaphore back at zero.
-/
module

public import proofs.«01_k».proof.Proof.Host

@[expose] public section

set_option maxRecDepth 16384

noncomputable section

namespace Cert.Proof

open Cert.KernelIdeal Cert.KernelIdeal.Gen Cert.Proof.Tile
open Idealize.ShloMosaic Idealize.ShloMosaic.TcCoe Idealize.ShloMosaic.Tactic Idealize.ShloMosaic.StableHlo
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The buffers around the SparseCore call -/

/-- The call's three arrays. -/
abbrev called : Finset (Ref sig .tc) := {main_v3, main_v12, main_v15}

theorem called_unscoped : called ⊆ Finset.univ.filter fun b : Ref sig .tc => ¬ b.isScoped := by
  intro b hb
  refine Finset.mem_filter.mpr ⟨Finset.mem_univ _, ?_⟩
  rcases Finset.mem_insert.mp hb with rfl | hb
  · decide
  rcases Finset.mem_insert.mp hb with rfl | hb
  · decide
  obtain rfl := Finset.mem_singleton.mp hb
  decide

/-- The host's buffers are the call's three and the others. -/
theorem before_call (d : Dev nD) (W : (b : Ref sig .tc) → Buf (Elt F) ((d : Thread nD τ).loc b)) :
    (unscopedBufs d W : sProp 𝕄)
      ⊢ iprop(((tLoc d ↦{fullShare} W main_v3) ∗ (xLoc d ↦{fullShare} W main_v12) ∗ oLoc d ↦{fullShare} W main_v15)
        ∗ Pipeline.unscopedBufsBut called d W) := by
  rw [Pipeline.unscopedBufs_sdiff called called_unscoped d W]
  refine sep_mono_left (Entails.of_eq ?_)
  rw [SparseCore.bigSep_insert' (by decide), SparseCore.bigSep_insert' (by decide), bigSep_singleton]

/-- The call's result and the others are every buffer but the two the call keeps. -/
theorem after_call (d : Dev nD) (W W' : (b : Ref sig .tc) → Buf (Elt F) ((d : Thread nD τ).loc b)) (h : ∀ b, b ≠ main_v15 → W' b = W b) :
    iprop((oLoc d ↦{fullShare} W' main_v15) ∗ Pipeline.unscopedBufsBut called d W)
      ⊢ (Pipeline.unscopedBufsBut kept d W' : sProp 𝕄) := by
  have hs : ({main_v15} : Finset (Ref sig .tc)) ⊆ (Finset.univ.filter fun b : Ref sig .tc => ¬ b.isScoped) \ kept := by
    intro b hb
    obtain rfl := Finset.mem_singleton.mp hb
    exact Finset.mem_sdiff.mpr ⟨Finset.mem_filter.mpr ⟨Finset.mem_univ _, by decide⟩, by decide⟩
  have he : ((Finset.univ.filter fun b : Ref sig .tc => ¬ b.isScoped) \ kept) \ {main_v15}
      = (Finset.univ.filter fun b : Ref sig .tc => ¬ b.isScoped) \ called := by
    rw [sdiff_sdiff_left]; rfl
  unfold Pipeline.unscopedBufsBut
  rw [bigSep_sdiff_split hs, bigSep_singleton, he]
  refine sep_mono .rfl (Entails.of_eq (bigSep_congr fun b hb => ?_))
  rw [h b fun e => (Finset.mem_sdiff.mp hb).2 (e ▸ by decide)]

/-! ## Ghost state at the launch -/

variable (m : (ℓ : Loc nD τ sig) → Buf (Elt F) ℓ)

/-- The table and the index list on every device, as the host leaves them. -/
abbrev tabs (d : Dev nD) : Buf (Elt F) (tLoc d) := W1 m d (Proc.devRef .tc main_v3)
abbrev idxs (d : Dev nD) : Buf (Elt F) (xLoc d) := W1 m d (Proc.devRef .tc main_v12)

/-- The launch's contract. -/
abbrev PP := P (F := F) (tabs m) (idxs m)

/-- The two pipelines' ghost state of device `d`. -/
abbrev ghosts (d : Dev nD) : sProp 𝕄 := Pipeline.ghostOn (pcfgs (F := F)) adm EP Finset.univ d

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem ghosts_of : iprop((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp 𝕄)))
    ⊢ bigSep Finset.univ fun c : Dev nD => ghosts (F := F) c := by
  rw [← bigSep_sep']
  exact bigSep_mono fun c _ => show iprop((bigSep Finset.univ fun p => Pipeline.cellsGhost (Pipeline.pin (pcfgs (F := F)) adm) EP p c)
        ∗ bigSep Finset.univ fun p => (Pipeline.toksInit (Pipeline.pin (pcfgs (F := F)) adm) EP p c : sProp 𝕄)) ⊢ ghosts (F := F) c
    from Entails.of_eq (by unfold ghosts Pipeline.ghostOn Pipeline.PerCore.ghostOn; rw [bigSep_sep'])

theorem own_EP (a : UP) : (BI.own (((Emb.inl : Emb UP (UP × Counters)).trans (embR : Emb (UP × Counters) (MM F))) a) : sProp (MM F))
    ⊢ BI.own ((EP (F := F)) a) := .rfl

theorem hu₀ : (ownU (u₀ (F := F)) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks) _) $$ Hu
  icases H with ⟨HH, HP⟩
  ihave H := (own_pair_emb (embR : Emb (UP × Counters) (MM F)) _ (1 : Counters)) $$ HP
  icases H with ⟨HP, -⟩
  ihave HP := (own_EP (F := F) _) $$ HP
  imod (Pipeline.fund_ghost (Pipeline.pin (pcfgs (F := F)) adm) (EP (F := F)) cellOf_inj) $$ HP with ⟨Hg, Ht⟩
  imodintro
  isplitl [HH]; · iexact HH
  isplitl [Hg Ht]
  · iapply (ghosts_of (F := F)); isplitl [Hg] <;> iassumption
  rw [show (bigSep Finset.univ fun thr : Thread nD τ => bigSep Finset.univ fun q : Fin 1 => (PP (F := F) m).x q thr) = bigSep Finset.univ fun _ => (BI.emp : sProp (MM F)) from
    bigSep_congr fun _ _ => bigSep_univ_of_subsingleton (0 : Fin 1), BI.bigSep_emp_const]
  iempintro

/-! ## @main on a TensorCore -/

theorem ops0_uc : ∀ op ∈ (ops0 : List (HloOp τ sig (Elt F))), op.bufs ⊆ Pipeline.ucRefs τ sig := fun op h =>
  Pipeline.sub_ucRefs op (List.forall_iff_forall_mem.mp ops0_sub op h)
theorem ops0_fresh : ∀ op ∈ (ops0 : List (HloOp τ sig (Elt F))), op.fresh = ∅ := by
  intro _ h; (repeat (cases h with | head => rfl | tail _ h => ?_)); exact nomatch h
theorem ops1_uc : ∀ op ∈ (ops1 : List (HloOp τ sig (Elt F))), op.bufs ⊆ Pipeline.ucRefsBut τ sig kept := fun op h =>
  Pipeline.sub_ucRefsBut kept op (List.forall_iff_forall_mem.mp ops1_sub op h) (by
    intro b hb
    have hb : b = main_v3 ∨ b = main_v12 := by
      rcases Finset.mem_insert.mp hb with h | h
      · exact Or.inl h
      · exact Or.inr (Finset.mem_singleton.mp h)
    have e15 : (Proc.devRef .tc b : DevRef τ sig) ≠ Proc.devRef .tc main_v15 := by rcases hb with rfl | rfl <;> exact devRef_ne_of_ne (by decide)
    have e16 : (Proc.devRef .tc b : DevRef τ sig) ≠ Proc.devRef .tc main_v16 := by rcases hb with rfl | rfl <;> exact devRef_ne_of_ne (by decide)
    have e17 : (Proc.devRef .tc b : DevRef τ sig) ≠ Proc.devRef .tc main_v17 := by rcases hb with rfl | rfl <;> exact devRef_ne_of_ne (by decide)
    have g16 : (Proc.devRef .tc b : DevRef τ sig) ∉ ({Proc.devRef .tc main_v15, Proc.devRef .tc main_v16} : Finset (DevRef τ sig)) := by
      simp only [Finset.mem_insert, Finset.mem_singleton, not_or]; exact ⟨e15, e16⟩
    have g17 : (Proc.devRef .tc b : DevRef τ sig) ∉ ({Proc.devRef .tc main_v16, Proc.devRef .tc main_v17} : Finset (DevRef τ sig)) := by
      simp only [Finset.mem_insert, Finset.mem_singleton, not_or]; exact ⟨e16, e17⟩
    cases h with
    | head => exact g16
    | tail _ h => cases h with
      | head => exact g17
      | tail _ h => exact nomatch h)
theorem ops1_fresh : ∀ op ∈ (ops1 : List (HloOp τ sig (Elt F))), op.fresh = ∅ := by
  intro _ h; (repeat (cases h with | head => rfl | tail _ h => ?_)); exact nomatch h

set_option backward.isDefEq.respectTransparency.types false in
/-- The two passes on device `d`'s TensorCore. -/
theorem passes_run [∀ e, Nonempty (Elt F e)] (d : Dev nD) (Q : PUnit → sProp (MM F)) :
    iprop((iprop(boundary (d : Thread nD τ) ∗ Pipeline.unscopedBufsBut kept d (H5 m d) ∗ quiet d) -∗ Q ⟨⟩)
        ∗ boundary (d : Thread nD τ) ∗ (Pipeline.unscopedBufsBut kept d (H3 m d) ∗ quiet d) ∗ levAts (K (F := F)).L (K (F := F)).lev ∗ ghosts (F := F) d)
      ⊢ wp frame (wpE (D (F := F)) 𝒱 (d : Thread nD τ) none) Set.univ (passes (F := F)) Q := by
  exact Pipeline.wp_segs (pcfgs (F := F)) adm (pdats (H3 m) (H4 m)) none cellOf_inj EP defs₀ 𝒱₀ (K (F := F)).L (K (F := F)).lev d
    [.region (region0 (H3 m) (H4 m) (H4 m) (H4_out0 m) (H4_out1 m) (H4_ne m)), .region (region1 (H3 m) (H4 m) (H5 m) (H5_out m) (H5_ne m))]
    Finset.univ (fun d => iprop(Pipeline.unscopedBufsBut kept d (H3 m d) ∗ quiet d)) (fun d => iprop(Pipeline.unscopedBufsBut kept d (H5 m d) ∗ quiet d))
    (show ([0, 1] : List (Fin 2)).Nodup by decide) (fun _ _ => Finset.mem_univ _) ⟨fun _ => .rfl, fun _ => .rfl, fun _ => .rfl⟩

/-- What @main leaves the claims on device `d`: every buffer the SparseCore call gave back, at the last contents. -/
abbrev FIN (d : Dev nD) : sProp (MM F) := Pipeline.unscopedBufsBut kept d (H5 m d)

/-- The last state of the host's thread, its debts apart. -/
theorem tcSt_end (d : Dev nD) : ((K (F := F)).tcSt EH d 1 : sProp (MM F))
    ⊢ iprop(quiet d ∗ (quiet d -∗ (K (F := F)).tcSt EH d 1)) := by
  unfold SparseCore.Cfg.tcSt
  rw [(K (F := F)).Otc_end d le_rfl]
  iintro ⟨HO, Hr⟩
  isplitl [HO]; · iexact HO
  iintro HO
  isplitl [HO]; · iexact HO
  iexact Hr

theorem held0 (d : Dev nD) : (unscopedBufs d (fun b => m ((SparseCore.T d).loc b)) : sProp (MM F))
    = held (d : Thread nD τ) (Pipeline.ucRefs τ sig) (W0 m d) := Pipeline.unscopedBufs_held d (W0 m d)
theorem held1 (d : Dev nD) : (held (d : Thread nD τ) (Pipeline.ucRefs τ sig) (after ops0 (W0 m d)) : sProp (MM F))
    ⊢ iprop(((tLoc d ↦{fullShare} tabs m d) ∗ (xLoc d ↦{fullShare} idxs m d) ∗ oLoc d ↦{fullShare} W1 m d (Proc.devRef .tc main_v15))
        ∗ Pipeline.unscopedBufsBut called d (fun b => W1 m d b)) :=
  (Entails.of_eq (Pipeline.unscopedBufs_held d (W1 m d)).symm).trans (before_call d fun b => W1 m d b)
theorem held2 (d : Dev nD) : iprop((oLoc d ↦{fullShare} Gout (F := F) (tabs m d) (idxs m d)) ∗ Pipeline.unscopedBufsBut called d (fun b => W1 m d b))
    ⊢ (held (d : Thread nD τ) (Pipeline.ucRefsBut τ sig kept) (W2 m d) : sProp (MM F)) := by
  rw [← Pipeline.unscopedBufsBut_held kept d (W2 m d)]
  refine BI.Entails.trans ?_ (after_call d (fun b => W1 m d b) (fun b => W2 m d b) (W2_ne m d))
  rw [W2_out]
  exact BI.Entails.refl _
theorem held3 (d : Dev nD) : (held (d : Thread nD τ) (Pipeline.ucRefsBut τ sig kept) (after ops1 (W2 m d)) : sProp (MM F))
    ⊢ Pipeline.unscopedBufsBut kept d (H3 m d) := Entails.of_eq (Pipeline.unscopedBufsBut_held kept d (W3 m d)).symm

variable (ρ : Dev nD → PrngReg)

set_option backward.isDefEq.respectTransparency.types false in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ ghosts (F := F) d)
      ⊢ wp frame (wpE ((K (F := F)).defs (D (F := F))) 𝒱 (SparseCore.T d) none) Set.univ (main (F := F) d)
          fun _ => iprop((K (F := F)).tcSt EH d 1 ∗ FIN m d ∗ (K (F := F)).tcEnd d) := by
  unfold SparseCore.Cfg.tcRes SparseCore.Cfg.tcEnd
  rw [held0, main_parts]
  iintro ⟨#Hctx, Hst, ⟨Hb, Hheld, Hts, -⟩, Hg⟩
  iapply (wp_seq 𝒱 none Set.univ d (Pipeline.ucRefs τ sig) _ ops0 ops0_uc ops0_fresh (W0 m d)) $$ [Hb Hheld]
  · isplitl [Hb] <;> iassumption
  iintro ⟨Hb, Hheld⟩
  ihave Hh := (held1 m d) $$ Hheld
  icases Hh with ⟨Hops, Hbut⟩
  ihave Hops := (operands (tabs m) (idxs m) d _) $$ Hops
  rw [wp_bind]
  iapply ((K (F := F)).wp_run (D (F := F)) 𝒱 (EH := EH) (P := PP m) κ d 0) $$ [Hst Hops Hb Hbut Hts Hg]
  isplitr; · iexact Hctx
  isplitl [Hst]; · iexact Hst
  isplitl [Hops]; · iexact Hops
  iintro ⟨Hst, Hdn⟩
  ihave Ho := (results (tabs m) (idxs m) d) $$ Hdn
  ihave Hheld := (held2 m d) $$ [Ho Hbut]
  · isplitl [Ho] <;> iassumption
  iapply (wp_seq 𝒱 none Set.univ d (Pipeline.ucRefsBut τ sig kept) _ ops1 ops1_uc ops1_fresh (W2 m d)) $$ [Hb Hheld]
  · isplitl [Hb] <;> iassumption
  iintro ⟨Hb, Hheld⟩
  ihave Hbut := (held3 m d) $$ Hheld
  ihave Hst := (show ((K (F := F)).tcSt EH d ((0 : Fin 1).val + 1) : sProp (MM F)) ⊢ iprop(quiet d ∗ (quiet d -∗ (K (F := F)).tcSt EH d 1)) from tcSt_end d) $$ Hst
  icases Hst with ⟨HO, Hst⟩
  iapply ((K (F := F)).wp_liftProg (D (F := F)) 𝒱 (SparseCore.T d) Set.univ none (passes (F := F)) _)
  iapply (passes_run m d _)
  isplitl [Hst Hts]
  · iintro ⟨Hb, Hbut, HO⟩
    ihave Hst := Hst $$ HO
    isplitl [Hst]; · iexact Hst
    isplitl [Hbut]; · iexact Hbut
    isplitl [Hb] <;> iassumption
  isplitl [Hb]; · iexact Hb
  isplitl [Hbut HO]
  · isplitl [Hbut] <;> iassumption
  isplitr; · iapply ((K (F := F)).ctx_levAts (EH := EH) (P := PP m) κ); iexact Hctx
  iexact Hg

/-! ## The run -/

/-- What the claims read of device `d`'s last state. -/
def fq (d : Dev nD) (s' : Phys nD τ sig (Elt F)) : Prop :=
  ∀ b : Ref sig .tc, b ∈ (Finset.univ.filter fun b : Ref sig .tc => ¬ b.isScoped) \ kept → s'.mem.mem ((d : Thread nD τ).loc b) = H5 m d b

theorem hfin (d : Dev nD) (s' : Phys nD τ sig (Elt F)) : iprop(FIN m d ∗ SI s') ⊢ (⌜fq m d s'⌝ : sProp (MM F)) := by
  have one : ∀ b : Ref sig .tc, iprop(FIN m d ∗ SI s')
      ⊢ (⌜b ∈ (Finset.univ.filter fun b : Ref sig .tc => ¬ b.isScoped) \ kept → s'.mem.mem ((d : Thread nD τ).loc b) = H5 m d b⌝ : sProp (MM F)) := by
    intro b
    by_cases hb : b ∈ (Finset.univ.filter fun b : Ref sig .tc => ¬ b.isScoped) \ kept
    · iintro ⟨Hf, HSI⟩
      ihave Hb := (show (FIN m d : sProp (MM F)) ⊢ ((d : Thread nD τ).loc b) ↦{fullShare} H5 m d b from bigSep_elim hb) $$ Hf
      ihave H := (persistent_entails_right (SI_pointsTo_agree (st := s') (ℓ := (d : Thread nD τ).loc b) (I := Finset.univ) (q := fullShare) (f := H5 m d b))) $$ [HSI Hb]
      · isplitl [HSI] <;> iassumption
      icases H with ⟨%hx, -, -⟩
      ipureintro
      exact fun _ => funext fun i => hx i (Finset.mem_univ i)
    · exact BI.pure_intro fun h => absurd h hb
  exact ((forall_intro one).trans pure_forall.2).trans (BI.pure_mono fun h b => h b)

/-- The run: from any launch memory every buffer the call gives back ends at the last contents, every semaphore at zero. -/
def QC (r : PUnit × MemSt nD τ sig (Elt F)) : Prop :=
  (∀ (d : Dev nD) (b : Ref sig .tc), b ∈ (Finset.univ.filter fun b : Ref sig .tc => ¬ b.isScoped) \ kept →
    r.2.mem ((d : Thread nD τ).loc b) = H5 m d b) ∧ r.2.sem = fun _ => 0

set_option backward.isDefEq.respectTransparency.types false in
theorem run_main [∀ e, Nonempty (Elt F e)] (hX : ∀ (d : Dev nD) (j), (idxs m d j : BitVec 32).toNat < 129920) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) (facts (F := F)) v₀
    (fun q hq => match q with | 0 => nomatch hq)
    (fun q _ => match q with | 0 => tileObl (tabs m) (idxs m) hX)
    (fun q _ => match q with | 0 => SparseCore.Cfg.VecSplit.of_plain (vecSplit (tabs m) (idxs m)))
    m ρ (main (F := F)) (fun d => ghosts (F := F) d) (FIN m) (u₀ (F := F)) (sep_elim_left.trans (hu₀ m)) (hmain m ρ) (fq m) (hfin m) (QC m)
    (fun _ h hz => ⟨h, hz⟩)

end Cert.Proof

end
-- ==== Proof.Index.lean ====
/-
  What the SparseCore call's rows and the dense pass's weights hold, element by element, in the program's own arguments.
-/
module

public import proofs.«01_k».proof.Proof.Host

@[expose] public section

set_option maxRecDepth 16384

noncomputable section

namespace Cert.Proof

open Cert.KernelIdeal Cert.KernelIdeal.Gen Cert.Proof.Tile
open Idealize.ShloMosaic Idealize.ShloMosaic.TcCoe Idealize.ShloMosaic.StableHlo Idealize.ShloMosaic.ValueIdx

variable {F : FTy → Type} [FloatOps F]

/-- A sample index clipped into the 2030 samples of one element. -/
def cw (x : BitVec 32) : BitVec 32 := IntOp.minsi 2029#32 (IntOp.maxsi 0#32 x)

theorem cw_lt (x : BitVec 32) : (cw x).toNat < 2030 := by
  have h0 : (0#32 : BitVec 32).toInt = 0 := by decide
  have h1 : (2029#32 : BitVec 32).toInt = 2029 := by decide
  have h2 : (2029#32 : BitVec 32).toNat = 2029 := by decide
  unfold cw IntOp.minsi IntOp.maxsi
  by_cases hx : x.slt 0#32 = true
  · rw [if_pos hx, if_neg (by decide)]; decide
  · rw [if_neg hx]
    have hx' : ¬ x.toInt < 0 := fun h => hx (by rw [BitVec.slt, h0]; exact decide_eq_true h)
    by_cases hy : (2029#32 : BitVec 32).slt x = true
    · rw [if_pos hy, h2]; omega
    · rw [if_neg hy]
      have hy' : ¬ 2029 < x.toInt := fun h => hy (by rw [BitVec.slt, h1]; exact decide_eq_true h)
      rw [BitVec.toInt_eq_toNat_cond] at hx' hy'
      have := x.isLt
      split at hx' <;> omega

section
variable (m : (ℓ : Loc nD τ sig) → Buf (Elt F) ℓ) (d : Dev nD)

abbrev a0 : S32x1x64x2030.Idx → F .f32 := m ((d : Thread nD τ).loc main_arg0)
abbrev a1 : S128x128x64.Idx → BitVec 32 := m ((d : Thread nD τ).loc main_arg1)
abbrev a2 : S128x128x64.Idx → F .f32 := m ((d : Thread nD τ).loc main_arg2)
abbrev a3 : S128x128x64.Idx → BitVec 1 := m ((d : Thread nD τ).loc main_arg3)

theorem flat_lt (e : Fin 64) (i j : Fin 128) : (e.val * 128 + i.val) * 128 + j.val < 1048576 := by omega

/-- One word of the index list. -/
theorem idx_at (e : Fin 64) (i j : Fin 128) :
    W1 m d (Proc.devRef .tc main_v12) (ix2 (0 : Fin 1) ⟨(e.val * 128 + i.val) * 128 + j.val, flat_lt e i j⟩)
      = cw (a1 m d (ix3 i j e)) + BitVec.ofNat 32 e.val * 2030#32 := by
  rw [W1_idx]
  refine (shapeCast_apply _ _ _ (ix3 e i j) ?_).trans ?_
  · rw [Shape.rowMajor_val_three, Shape.rowMajor_val_two]
    show (e.val * 128 + i.val) * 128 + j.val = 0 * 1048576 + ((e.val * 128 + i.val) * 128 + j.val); omega
  · refine congrArg₂ (· + ·) ?_ ?_
    · refine (transpose_apply _ _ _ _ (ix3 i j e) ?_).trans rfl
      intro b
      match b with
      | ⟨0, _⟩ => rfl
      | ⟨1, _⟩ => rfl
      | ⟨2, _⟩ => rfl
    · refine (broadcastInDim_apply _ _ _ _ (ix3 e (0 : Fin 1) (0 : Fin 1)) ?_).trans ?_
      · intro b
        match b with
        | ⟨0, _⟩ => rfl
        | ⟨1, _⟩ => rfl
        | ⟨2, _⟩ => rfl
      · refine (broadcastInDim_apply _ _ _ _ (ix1 e) ?_).trans rfl
        intro b
        match b with
        | ⟨0, _⟩ => rfl

theorem idx_toNat (e : Fin 64) (i j : Fin 128) :
    (W1 m d (Proc.devRef .tc main_v12) (ix2 (0 : Fin 1) ⟨(e.val * 128 + i.val) * 128 + j.val, flat_lt e i j⟩) : BitVec 32).toNat
      = e.val * 2030 + (cw (a1 m d (ix3 i j e))).toNat := by
  rw [idx_at]
  have := cw_lt (a1 m d (ix3 i j e))
  have he : (BitVec.ofNat 32 e.val).toNat = e.val := by rw [BitVec.toNat_ofNat]; omega
  have h2 : (2030#32 : BitVec 32).toNat = 2030 := by decide
  rw [BitVec.toNat_add, BitVec.toNat_mul, he, h2]
  omega

/-- Every word of the index list names a row of the table. -/
theorem idx_lt (J) : (W1 m d (Proc.devRef .tc main_v12) J : BitVec 32).toNat < 129920 := by
  have hJ : J = ix2 (0 : Fin 1) (⟨((J 1).val / 16384 * 128 + (J 1).val / 128 % 128) * 128 + (J 1).val % 128, by
      have : (J 1).val < 1048576 := (J 1).isLt
      omega⟩ : Fin 1048576) := by
    funext a
    match a with
    | ⟨0, _⟩ => exact Fin.ext (by have : (J 0).val < 1 := (J 0).isLt; show (J 0).val = 0; omega)
    | ⟨1, _⟩ => exact Fin.ext (by show (J 1).val = ((J 1).val / 16384 * 128 + (J 1).val / 128 % 128) * 128 + (J 1).val % 128; omega)
  have h1 : (J 1).val < 1048576 := (J 1).isLt
  have := idx_toNat m d ⟨(J 1).val / 16384, by omega⟩ ⟨(J 1).val / 128 % 128, by omega⟩ ⟨(J 1).val % 128, by omega⟩
  have hc := cw_lt (a1 m d (ix3 ⟨(J 1).val / 128 % 128, by omega⟩ ⟨(J 1).val % 128, by omega⟩ ⟨(J 1).val / 16384, by omega⟩))
  rw [hJ]
  refine lt_of_eq_of_lt this ?_
  show (J 1).val / 16384 * 2030 + _ < _
  omega

/-- The sample that batch `b` contributes to pixel `(i, j)` from element `e`. -/
def samp (b : Fin 32) (e : Fin 64) (i j : Fin 128) : F .f32 :=
  a0 m d (ix4 b (0 : Fin 1) e ⟨(cw (a1 m d (ix3 i j e))).toNat, cw_lt _⟩)

/-- One row of the padded table, in its first 32 lanes. -/
theorem tab_at (e : Fin 64) (t : Fin 2030) (b : Fin 32) (h : e.val * 2030 + t.val < 129920) :
    W1 m d (Proc.devRef .tc main_v3) (ix2 ⟨e.val * 2030 + t.val, h⟩ (⟨b.val, by omega⟩ : Fin 128))
      = a0 m d (ix4 b (0 : Fin 1) e t) := by
  rw [W1_tab]
  unfold pad
  rw [dif_pos]
  rotate_left
  · intro a
    match a with
    | ⟨0, _⟩ => exact ⟨Nat.zero_le _, Nat.mod_one _, by show (e.val * 2030 + t.val - 0) / 1 < 129920; omega⟩
    | ⟨1, _⟩ => exact ⟨Nat.zero_le _, Nat.mod_one _, by show (b.val - 0) / 1 < 32; omega⟩
  refine (transpose_apply _ _ _ _ (ix2 b (⟨e.val * 2030 + t.val, h⟩ : Fin 129920)) ?_).trans ?_
  · intro a
    match a with
    | ⟨0, _⟩ => show e.val * 2030 + t.val = (e.val * 2030 + t.val - 0) / 1; omega
    | ⟨1, _⟩ => show b.val = (b.val - 0) / 1; omega
  refine (shapeCast_apply _ _ _ (ix3 b e t) ?_).trans ?_
  · rw [Shape.rowMajor_val_three, Shape.rowMajor_val_two]
    show (b.val * 64 + e.val) * 2030 + t.val = b.val * 129920 + (e.val * 2030 + t.val); omega
  refine (shapeCast_apply _ _ _ (ix4 b (0 : Fin 1) e t) ?_).trans rfl
  rw [Shape.rowMajor_val_three, Shape.rowMajor_val_four]
  show ((b.val * 1 + 0) * 64 + e.val) * 2030 + t.val = (b.val * 64 + e.val) * 2030 + t.val; omega

/-- The gathered rows as the dense pass reads them. -/
theorem rows_at (e : Fin 64) (i j : Fin 128) (b : Fin 32) : H3 m d main_v17 (ix4 e i j b) = samp m d b e i j := by
  rw [H3_rows]
  refine (shapeCast_apply _ _ _ (ix2 (⟨(e.val * 128 + i.val) * 128 + j.val, flat_lt e i j⟩ : Fin 1048576) b) ?_).trans ?_
  · rw [Shape.rowMajor_val_four, Shape.rowMajor_val_two]; rfl
  refine (extractStridedSlice_apply _ _ _ _ (ix2 (⟨(e.val * 128 + i.val) * 128 + j.val, flat_lt e i j⟩ : Fin 1048576)
    (⟨b.val, by omega⟩ : Fin 128)) ?_).trans ?_
  · intro a
    match a with
    | ⟨0, _⟩ => exact (Nat.zero_add _).symm
    | ⟨1, _⟩ => exact (Nat.zero_add _).symm
  have hc := cw_lt (a1 m d (ix3 i j e))
  have hi := idx_toNat m d e i j
  refine Eq.trans ?_ (tab_at m d e ⟨(cw (a1 m d (ix3 i j e))).toNat, hc⟩ b (by show e.val * 2030 + (cw (a1 m d (ix3 i j e))).toNat < 129920; omega))
  refine congrArg (W1 m d (Proc.devRef .tc main_v3)) ?_
  funext a
  match a with
  | ⟨0, _⟩ =>
    refine Fin.ext ?_
    show (W1 m d (Proc.devRef .tc main_v12) (ix2 (0 : Fin 1) ⟨(e.val * 128 + i.val) * 128 + j.val, flat_lt e i j⟩) : BitVec 32).toNat % 129920
      = e.val * 2030 + (cw (a1 m d (ix3 i j e))).toNat
    rw [hi]; omega
  | ⟨1, _⟩ => rfl

/-- The masked weight of element `e` at pixel `(i, j)`. -/
def wt (e : Fin 64) (i j : Fin 128) : F .f32 :=
  Scalar.select (a3 m d (ix3 i j e)) (a2 m d (ix3 i j e)) (FloatOps.ofBits .f32 0x00000000#32)

theorem wts_at (e : Fin 64) (i j : Fin 128) : H3 m d main_v14 (ix3 e i j) = wt m d e i j := by
  rw [H3_ne m d main_v14 (by decide) (by decide) (by decide), W1_wts]
  refine (transpose_apply _ _ _ _ (ix3 i j e) ?_).trans rfl
  intro b
  match b with
  | ⟨0, _⟩ => rfl
  | ⟨1, _⟩ => rfl
  | ⟨2, _⟩ => rfl

end

end Cert.Proof

end
-- ==== Proof.Frames.lean ====
/-
  The three programs' frames: each leaves its arguments as they were and every semaphore at zero.
-/
module

public import proofs.«01_k».proof.Defs
public import proofs.«01_k».proof.Proof.Main
public import proofs.«01_k».proof.Proof.Index
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 65536

noncomputable section

namespace Cert.Proof

open Cert.KernelIdeal Cert.KernelIdeal.Gen Cert.Proof.Tile
open Idealize.ShloMosaic Idealize.ShloMosaic.TcCoe Idealize.ShloMosaic.StableHlo
open Idealize.SL.Sem

/-- The run, the index list's bound supplied. -/
theorem run_program {F : FTy → Type} [FloatOps F] [∀ e, Nonempty (Elt F e)]
    (m : (ℓ : Loc nD τ sig) → Buf (Elt F) ℓ) (ρ : Dev nD → PrngReg) :
    θ_run (Cert.KernelIdeal.defs (F := F)) (Cert.KernelIdeal.threads (F := F)) ⟨m, fun _ => 0, ρ⟩ (QC m) :=
  run_main m ρ (fun d j => idx_lt m d j)

/-- What the run leaves of each argument. -/
theorem kept_args {F : FTy → Type} [FloatOps F] (m : (ℓ : Loc nD τ sig) → Buf (Elt F) ℓ)
    (r : PUnit × MemSt nD τ sig (Elt F)) (h : QC m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨(h.1 c main_arg0 (by decide)).trans ((H5_keep m c main_arg0 (by decide) (by decide) (by decide) (by decide) (by decide) (by decide)).trans (W1_arg0 m c)),
   (h.1 c main_arg1 (by decide)).trans ((H5_keep m c main_arg1 (by decide) (by decide) (by decide) (by decide) (by decide) (by decide)).trans (W1_arg1 m c)),
   (h.1 c main_arg2 (by decide)).trans ((H5_keep m c main_arg2 (by decide) (by decide) (by decide) (by decide) (by decide) (by decide)).trans (W1_arg2 m c)),
   (h.1 c main_arg3 (by decide)).trans ((H5_keep m c main_arg3 (by decide) (by decide) (by decide) (by decide) (by decide) (by decide)).trans (W1_arg3 m c))⟩

/-- One program's frame, over any float values. -/
theorem frame_any {F : FTy → Type} [FloatOps F] [∀ e, Nonempty (Elt F e)]
    (m : (ℓ : Loc nD τ sig) → Buf (Elt F) ℓ) (ρ : Dev nD → PrngReg) :
    θ_run (Cert.KernelIdeal.defs (F := F)) (Cert.KernelIdeal.threads (F := F)) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run Cert.KernelIdeal.defs _ _).mono (fun r h => ⟨fun c => kept_args m r h c, h.2⟩) (run_program m ρ)

theorem frame_ideal : Cert.quiescent_KernelIdeal := fun m ρ _ => frame_any (F := Ideal) m ρ

/-! The program as printed and the program at exact arithmetic are one text, body by body. -/

theorem bodies_eq {F : FTy → Type} [FloatOps F] : Cert.Kernel.defs₀ (F := F) = Cert.KernelIdeal.defs₀ (F := F) := by
  funext p l a
  match p, l, a with
  | .tc, 0, _ => rfl
  | .tc, 1, (_, _) => rfl
  | .tc, 2, (_, _) => rfl
  | .scScalar _, 0, _ => rfl
  | .scScalar _, 1, _ => rfl
  | .scScalar _, 2, _ => rfl
  | .scVector _ _, 0, _ => rfl
  | .scVector _ _, 1, _ => rfl
  | .scVector _ _, 2, _ => rfl

theorem defs_eq {F : FTy → Type} [FloatOps F] : Cert.Kernel.defs (F := F) = Cert.KernelIdeal.defs (F := F) :=
  congrArg (fun D => Cert.KernelIdeal.sc.defs (Pipeline.defs Cert.KernelIdeal.pcfgs D)) bodies_eq

theorem frame_kernel : Cert.quiescent_Kernel := fun m ρ _ => by
  have h := frame_any (F := Bits) m ρ
  rw [← defs_eq] at h
  exact h

theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

end Cert.Proof

end
-- ==== Proof.Values.lean ====
/-
  What the two dense passes leave, element by element: the weighted samples, their sum over the elements of the array, and
  the scaled image.
-/
module

public import proofs.«01_k».proof.Proof.Index

@[expose] public section

set_option maxRecDepth 16384

noncomputable section

namespace Cert.Proof

open Cert.KernelIdeal Cert.KernelIdeal.Gen Cert.Proof.Tile
open Idealize.ShloMosaic Idealize.ShloMosaic.TcCoe Idealize.ShloMosaic.StableHlo Idealize.ShloMosaic.ValueIdx
open Idealize.ShloMosaic.Pipeline (Dat Cfg Window)

variable {F : FTy → Type} [FloatOps F]

/-! ## The first pass -/

/-- Grid point `e` of the first pass. -/
abbrev pt (e : Fin 64) : Fin cfg1.N := ⟨e.val, Nat.lt_of_lt_of_eq e.isLt N_1.symm⟩

theorem index0 : ∀ t : Fin cfg1.N, win1_0.index t = ![t.val, 0, 0, 0] :=
  (by decide +kernel : ∀ t : Fin grid1.N, win1_0.index t = ![t.val, 0, 0, 0])
theorem index1 : ∀ t : Fin cfg1.N, win1_1.index t = ![t.val, 0, 0] :=
  (by decide +kernel : ∀ t : Fin grid1.N, win1_1.index t = ![t.val, 0, 0])
theorem index2 : ∀ t : Fin cfg1.N, win1_2.index t = ![0, t.val, 0, 0] :=
  (by decide +kernel : ∀ t : Fin grid1.N, win1_2.index t = ![0, t.val, 0, 0])
theorem index3 : ∀ t : Fin cfg1.N, win1_3.index t = ![0, 0, 0, 0] :=
  (by decide +kernel : ∀ t : Fin grid1.N, win1_3.index t = ![0, 0, 0, 0])

section
variable (W : HostVal F) (d : Dev nD)

/-- A block of gathered rows, read out of the whole array. -/
theorem blk0_at (e : Fin 64) (i j : Fin 128) (b : Fin 32) :
    Finish.blk W d 0 (pt e) (ix4 (0 : Fin 1) i j b) = W d main_v17 (ix4 e i j b) := by
  refine congrArg (W d main_v17) ?_
  funext a
  refine Fin.ext ?_
  refine (win1_0.rect_emb_val (pt e) (ix4 (0 : Fin 1) i j b) a).trans ?_
  rw [index0]
  match a with
  | ⟨0, _⟩ => exact (show e.val * 1 + 0 = e.val by omega)
  | ⟨1, _⟩ => exact (show 0 * 128 + i.val = i.val by omega)
  | ⟨2, _⟩ => exact (show 0 * 128 + j.val = j.val by omega)
  | ⟨3, _⟩ => exact (show 0 * 32 + b.val = b.val by omega)

theorem blk1_at (e : Fin 64) (i j : Fin 128) :
    Finish.blk W d 1 (pt e) (ix3 (0 : Fin 1) i j) = W d main_v14 (ix3 e i j) := by
  refine congrArg (W d main_v14) ?_
  funext a
  refine Fin.ext ?_
  refine (win1_1.rect_emb_val (pt e) (ix3 (0 : Fin 1) i j) a).trans ?_
  rw [index1]
  match a with
  | ⟨0, _⟩ => exact (show e.val * 1 + 0 = e.val by omega)
  | ⟨1, _⟩ => exact (show 0 * 128 + i.val = i.val by omega)
  | ⟨2, _⟩ => exact (show 0 * 128 + j.val = j.val by omega)

theorem pay1_at (x0 : Vec F S1x128x128x32 .f32) (x1 : Vec F S1x128x128 .f32) (b : Fin 32) (i j : Fin 128) :
    k1_pay1 x0 x1 (ix3 b i j) = FloatOps.mulf (x0 (ix4 (0 : Fin 1) i j b)) (x1 (ix3 (0 : Fin 1) i j)) := by
  refine congrArg₂ FloatOps.mulf ?_ ?_
  · refine (transpose_apply _ _ _ _ (ix3 i j b) ?_).trans ?_
    · intro a
      match a with
      | ⟨0, _⟩ => rfl
      | ⟨1, _⟩ => rfl
      | ⟨2, _⟩ => rfl
    · refine shapeCast_apply _ _ _ (ix4 (0 : Fin 1) i j b) ?_
      rw [Shape.rowMajor_val_three, Shape.rowMajor_val_four]
      show ((0 * 128 + i.val) * 128 + j.val) * 32 + b.val = (i.val * 128 + j.val) * 32 + b.val; omega
  · refine (broadcastTo_apply _ _ _ (ix3 (0 : Fin 1) i j) ?_).trans ?_
    · intro a
      match a with
      | ⟨0, _⟩ => rfl
      | ⟨1, _⟩ => rfl
      | ⟨2, _⟩ => rfl
    · rw [shapeCast_shapeCast]

theorem cast4_at (x : FVec F S32x128x128 .f32) (b : Fin 32) (i j : Fin 128) :
    shapeCast S32x1x128x128 x shapeCasts_S32x128x128_S32x1x128x128 (ix4 b (0 : Fin 1) i j) = x (ix3 b i j) := by
  refine shapeCast_apply _ _ _ (ix3 b i j) ?_
  rw [Shape.rowMajor_val_three, Shape.rowMajor_val_four]
  show (b.val * 128 + i.val) * 128 + j.val = ((b.val * 1 + 0) * 128 + i.val) * 128 + j.val; omega

theorem cast3_at (x : FVec F S32x1x128x128 .f32) (b : Fin 32) (i j : Fin 128) :
    shapeCast S32x128x128 x shapeCasts_S32x1x128x128_S32x128x128 (ix3 b i j) = x (ix4 b (0 : Fin 1) i j) := by
  refine shapeCast_apply _ _ _ (ix4 b (0 : Fin 1) i j) ?_
  rw [Shape.rowMajor_val_three, Shape.rowMajor_val_four]
  show ((b.val * 1 + 0) * 128 + i.val) * 128 + j.val = (b.val * 128 + i.val) * 128 + j.val; omega

theorem pay4_at (x0 : Vec F S1x128x128x32 .f32) (x1 : Vec F S1x128x128 .f32) (y : Vec F S32x1x128x128 .f32)
    (b : Fin 32) (i j : Fin 128) :
    k1_pay4 x0 x1 y (ix4 b (0 : Fin 1) i j)
      = FloatOps.addf (y (ix4 b (0 : Fin 1) i j)) (FloatOps.mulf (x0 (ix4 (0 : Fin 1) i j b)) (x1 (ix3 (0 : Fin 1) i j))) := by
  unfold k1_pay4
  refine (cast4_at (F := F) (addf (shapeCast S32x128x128 y shapeCasts_S32x1x128x128_S32x128x128) (k1_pay1 x0 x1)) b i j).trans ?_
  exact congrArg₂ (FloatOps.addf (F := F)) (cast3_at (F := F) y b i j) (pay1_at x0 x1 b i j)

/-! The two outputs' arrays from their blocks. -/

theorem disjoint2 : ∀ t t' : Fin cfg1.N, (cfg1.win 2).flush t = true → (cfg1.win 2).flush t' = true → t ≠ t' →
    Disjoint ((cfg1.win 2).blk t).view.set ((cfg1.win 2).blk t').view.set :=
  fun t t' _ _ hne => (cfg1.win 2).disjoint_blk fun h => hne (Fin.ext (by
    have h' : win1_2.index t = win1_2.index t' := h
    rw [index2, index2] at h'
    exact congrFun h' 1))

theorem disjoint3 : ∀ t t' : Fin cfg1.N, (cfg1.win 3).flush t = true → (cfg1.win 3).flush t' = true → t ≠ t' →
    Disjoint ((cfg1.win 3).blk t).view.set ((cfg1.win 3).blk t').view.set := by
  intro t t' hf hf' hne
  have h1 := (flush1_3 t).mp hf
  have h2 := (flush1_3 t').mp hf'
  have e1 := Nat.lt_of_lt_of_eq t.isLt N_1
  have e2 := Nat.lt_of_lt_of_eq t'.isLt N_1
  exact absurd (Fin.ext (by omega)) hne

/-- The weighted samples' array. -/
theorem out0_at (b : Fin 32) (e : Fin 64) (i j : Fin 128) :
    (Finish.dat W d).arrAt 2 cfg1.N (ix4 b e i j)
      = FloatOps.mulf (W d main_v17 (ix4 e i j b)) (W d main_v14 (ix3 e i j)) := by
  have h := (Finish.dat W d).arrAt_emb_eq_flushed 2 disjoint2 (pt e) (flush1_2 _) (ix4 b (0 : Fin 1) i j)
  have hy : ((cfg1.win 2).blk (pt e)).view.emb (ix4 b (0 : Fin 1) i j) = (ix4 b e i j : S32x64x128x128.Idx) := by
    funext a
    refine Fin.ext ?_
    refine (win1_2.rect_emb_val (pt e) (ix4 b (0 : Fin 1) i j) a).trans ?_
    rw [index2]
    match a with
    | ⟨0, _⟩ => exact (show 0 * 32 + b.val = b.val by omega)
    | ⟨1, _⟩ => exact (show e.val * 1 + 0 = e.val by omega)
    | ⟨2, _⟩ => exact (show 0 * 128 + i.val = i.val by omega)
    | ⟨3, _⟩ => exact (show 0 * 128 + j.val = j.val by omega)
  rw [← hy]
  refine h.trans ?_
  show (Finish.dat W d).after 2 (pt e) (ix4 b (0 : Fin 1) i j) = _
  rw [Finish.after_2]
  refine (cast4_at _ b i j).trans ((pay1_at _ _ b i j).trans ?_)
  exact congrArg₂ FloatOps.mulf (blk0_at W d e i j b) (blk1_at W d e i j)

/-- The sums' array: what the last point left in the running sum. -/
theorem out1_at (b : Fin 32) (i j : Fin 128) :
    (Finish.dat W d).arrAt 3 cfg1.N (ix4 b (0 : Fin 1) i j)
      = Finish.acc W d 63 (Nat.lt_of_lt_of_eq (by decide) N_1.symm) (ix4 b (0 : Fin 1) i j) := by
  have h := (Finish.dat W d).arrAt_emb_eq_flushed 3 disjoint3 (pt 63) ((flush1_3 _).mpr rfl) (ix4 b (0 : Fin 1) i j)
  have hy : ((cfg1.win 3).blk (pt 63)).view.emb (ix4 b (0 : Fin 1) i j) = (ix4 b (0 : Fin 1) i j : S32x1x128x128.Idx) := by
    funext a
    refine Fin.ext ?_
    refine (win1_3.rect_emb_val (pt 63) (ix4 b (0 : Fin 1) i j) a).trans ?_
    rw [index3]
    match a with
    | ⟨0, _⟩ => exact (show 0 * 32 + b.val = b.val by omega)
    | ⟨1, _⟩ => exact (show 0 * 1 + 0 = 0 by omega)
    | ⟨2, _⟩ => exact (show 0 * 128 + i.val = i.val by omega)
    | ⟨3, _⟩ => exact (show 0 * 128 + j.val = j.val by omega)
  rw [← hy]
  refine h.trans ?_
  show (Finish.dat W d).after 3 (pt 63) (ix4 b (0 : Fin 1) i j) = _
  rw [Finish.after_3, hy]
  rfl

/-! ## The second pass -/

theorem index20 : win2_0.index t2_0 = ![0, 0, 0, 0] := by decide +kernel
theorem index21 : win2_1.index t2_0 = ![0, 0, 0, 0] := by decide +kernel

theorem emb2 (y : S32x1x128x128.Idx) : ((cfg2.win 1).blk t2_0).view.emb y = y := by
  funext a
  refine Fin.ext ?_
  exact win2_1.rect_emb_val_of_index_zero t2_0 a (by rw [index21]; revert a; decide) y

theorem nblk_eq : Norm.blk W d 0 t2_0 = W d main_v18_1 := by
  funext y
  refine congrArg (W d main_v18_1) ?_
  funext a
  refine Fin.ext ?_
  exact win2_0.rect_emb_val_of_index_zero t2_0 a (by rw [index20]; revert a; decide) y

theorem out2_eq : (Norm.dat W d).arrAt 1 cfg2.N = k2_pay1 (F := F) (W d main_v18_1) := by
  funext y
  have h := (Norm.dat W d).arrAt_emb_eq_flushed 1 (fun t t' _ _ hne => absurd ((fin_N2 t).trans (fin_N2 t').symm) hne) t2_0 (flush2_1 _) y
  rw [emb2] at h
  refine h.trans ?_
  show (Norm.dat W d).after 1 t2_0 y = _
  rw [Norm.after_1, nblk_eq]

end

/-! ## The whole program's two results -/

section
variable (m : (ℓ : Loc nD τ sig) → Buf (Elt F) ℓ) (d : Dev nD)

/-- The weighted sample of batch `b` and element `e` at pixel `(i, j)`. -/
def wsamp (b : Fin 32) (e : Fin 64) (i j : Fin 128) : F .f32 := FloatOps.mulf (samp m d b e i j) (wt m d e i j)

theorem pixel_at (b : Fin 32) (e : Fin 64) (i j : Fin 128) : H5 m d main_v18_0 (ix4 b e i j) = wsamp m d b e i j := by
  rw [H5_ne m d main_v18_0 (by decide), H4_out0]
  refine (out0_at (H3 m) d b e i j).trans ?_
  exact congrArg₂ FloatOps.mulf (rows_at m d e i j b) (wts_at m d e i j)

/-- The sum of the weighted samples over the elements up to `n`, in the order of the pass. -/
def run (b : Fin 32) (i j : Fin 128) : (n : ℕ) → n < 64 → F .f32
  | 0, h => wsamp m d b ⟨0, h⟩ i j
  | n + 1, h => FloatOps.addf (run b i j n (Nat.lt_of_succ_lt h)) (wsamp m d b ⟨n + 1, h⟩ i j)

theorem acc_at (b : Fin 32) (i j : Fin 128) : ∀ (n : ℕ) (h : n < 64),
    Finish.acc (H3 m) d n (Nat.lt_of_lt_of_eq h N_1.symm) (ix4 b (0 : Fin 1) i j) = run m d b i j n h
  | 0, h => (cast4_at _ b i j).trans ((pay1_at _ _ b i j).trans (congrArg₂ FloatOps.mulf
      ((blk0_at (H3 m) d ⟨0, h⟩ i j b).trans (rows_at m d _ i j b)) ((blk1_at (H3 m) d ⟨0, h⟩ i j).trans (wts_at m d _ i j))))
  | n + 1, h => (pay4_at _ _ _ b i j).trans (congrArg₂ FloatOps.addf (acc_at b i j n (Nat.lt_of_succ_lt h))
      (congrArg₂ FloatOps.mulf
        ((blk0_at (H3 m) d ⟨n + 1, h⟩ i j b).trans (rows_at m d _ i j b))
        ((blk1_at (H3 m) d ⟨n + 1, h⟩ i j).trans (wts_at m d _ i j))))

/-- The unscaled image. -/
def sums : S32x1x128x128.Idx → F .f32 := fun y => run m d (y 0) (y 2) (y 3) 63 (by decide)

theorem sums_eq : H4 m d main_v18_1 = sums m d := by
  funext y
  obtain ⟨b, z, i, j, rfl⟩ : ∃ (b : Fin 32) (z : Fin 1) (i j : Fin 128), y = ix4 b z i j := ⟨_, _, _, _, eq_ix4 y⟩
  obtain rfl : z = 0 := Subsingleton.elim _ _
  rw [H4_out1]
  exact (out1_at (H3 m) d b i j).trans (acc_at m d b i j 63 (by decide))

theorem image_eq : H5 m d main_v19 = k2_pay1 (F := F) (sums m d) := by
  rw [H5_out, out2_eq, sums_eq]

end

end Cert.Proof

end
-- ==== Proof.Reference.lean ====
/-
  The reference's two results, element by element, at exact arithmetic.
-/
module

public import proofs.«01_k».proof.Proof.Values
public import proofs.«01_k».proof.Proof.Gen.ReferenceIdeal
public import proofs.«01_k».proof.Proof.Gen.ReferenceIdeal.Run
public import Idealize.ShloMosaic.PureOps.Ideal
public import Idealize.ShloMosaic.PureOps.Ideal.Laws
public import Idealize.ShloMosaic.Lib.IdealHost
public import Idealize.ShloMosaic.Lib.ValueIdx

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.ShloMosaic.ValueIdx

/-! ## The terms of the reference, named -/

/-- Each element's own number, at every pixel. -/
def elems : IVec S128x128x64 32 :=
  broadcastInDim S128x128x64 ![0, 1, 2] bcast_S1x1x64_S128x128x64_0_1_2 (broadcastInDim S1x1x64 ![2] bcast_S64_S1x1x64_2 (iotaInDim S64 32 0))

def zeros : IVec S128x128x64 32 := broadcastInDim S128x128x64 ![] bcast_S_S128x128x64 (constantI S_ 32 0#32)

def elemIdx : IVec S128x128x64 32 :=
  select (cmpi .slt elems zeros) (addi elems (broadcastInDim S128x128x64 ![] bcast_S_S128x128x64 (constantI S_ 32 64#32))) elems

/-- The sample indices clipped into range. -/
def clip (x1 : IVec S128x128x64 32) : IVec S128x128x64 32 :=
  minsi (broadcastInDim S128x128x64 ![] bcast_S_S128x128x64 (id (constantI S_ 32 2029#32)))
    (maxsi (broadcastInDim S128x128x64 ![] bcast_S_S128x128x64 (id (constantI S_ 32 0#32))) x1)

def clipIdx (x1 : IVec S128x128x64 32) : IVec S128x128x64 32 :=
  select (cmpi .slt (clip x1) zeros) (addi (clip x1) (broadcastInDim S128x128x64 ![] bcast_S_S128x128x64 (constantI S_ 32 2030#32))) (clip x1)

def starts (x1 : IVec S128x128x64 32) : IVec S128x128x64x2 32 :=
  concatenate S128x128x64x2 3
    [⟨S128x128x64x1, broadcastInDim S128x128x64x1 ![0, 1, 2] bcast_S128x128x64_S128x128x64x1_0_1_2 elemIdx⟩,
     ⟨S128x128x64x1, broadcastInDim S128x128x64x1 ![0, 1, 2] bcast_S128x128x64_S128x128x64x1_0_1_2 (clipIdx x1)⟩]
    concatenates_S128x128x64x1_S128x128x64x1_S128x128x64x2_d3

/-- The gather's axes: the batch a slice, the element and the sample the two start words. -/
abbrev gd : GatherDims S32x64x2030 S128x128x64x2 S32x128x128x64 :=
  gather_S32x64x2030_S128x128x64x2_S32x128x128x64_0_12_n_n_12_3_3211

def picked (x0 : FVec Ideal S32x1x64x2030 .f32) (x1 : IVec S128x128x64 32) : FVec Ideal S32x128x128x64 .f32 :=
  Host.gather gd (shapeCast S32x64x2030 x0 shapeCasts_S32x1x64x2030_S32x64x2030) (starts x1)

/-- The weighted samples. -/
def pix (x0 : FVec Ideal S32x1x64x2030 .f32) (x1 : IVec S128x128x64 32) (x2 : FVec Ideal S128x128x64 .f32) (x3 : IVec S128x128x64 1) :
    FVec Ideal S32x128x128x64 .f32 :=
  mulf (mulf (picked x0 x1)
      (broadcastInDim S32x128x128x64 ![0, 1, 2, 3] bcast_S1x128x128x64_S32x128x128x64_0_1_2_3
        (uitofp .f32 (broadcastInDim S1x128x128x64 ![1, 2, 3] bcast_S128x128x64_S1x128x128x64_1_2_3 x3))))
    (broadcastInDim S32x128x128x64 ![0, 1, 2, 3] bcast_S1x128x128x64_S32x128x128x64_0_1_2_3
      (broadcastInDim S1x128x128x64 ![1, 2, 3] bcast_S128x128x64_S1x128x128x64_1_2_3 x2))

/-- The positive part of the summed image. -/
def pos (p : FVec Ideal S32x128x128x64 .f32) : FVec Ideal S32x1x128x128 .f32 :=
  maximumf (broadcastInDim S32x1x128x128 ![] bcast_S_S32x1x128x128 (id (constant S_ .f32 0x00000000#32)))
    (broadcastInDim S32x1x128x128 ![0, 2, 3] bcast_S32x128x128_S32x1x128x128_0_2_3
      (Host.reduceAdd p (constant S_ .f32 0x00000000#32) reducesTo_S32x128x128x64_S32x128x128_d3 h_S_))

def flat (y : FVec Ideal S32x1x128x128 .f32) : FVec Ideal S32x16384 .f32 := shapeCast S32x16384 y shapeCasts_S32x1x128x128_S32x16384

/-- The largest value of each image. -/
def tops (y : FVec Ideal S32x1x128x128 .f32) : FVec Ideal S32 .f32 :=
  Host.reduce FloatOps.maximumf (flat y) (constant S_ .f32 0xFF800000#32) reducesTo_S32x16384_S32_d1 h_S_

def top1 (y : FVec Ideal S32x1x128x128 .f32) : FVec Ideal S32x1 .f32 := broadcastInDim S32x1 ![0] bcast_S32_S32x1_0 (tops y)

def scale (y : FVec Ideal S32x1x128x128 .f32) : FVec Ideal S32x1 .f32 :=
  select (cmpf .ogt (top1 y) (broadcastInDim S32x1 ![] bcast_S_S32x1 (constant S_ .f32 0x322BCC77#32))) (top1 y)
    (broadcastInDim S32x1 ![] bcast_S_S32x1 (constant S_ .f32 0x3F800000#32))

def img (y : FVec Ideal S32x1x128x128 .f32) : FVec Ideal S32x1x128x128 .f32 :=
  shapeCast S32x1x128x128 (Host.divf (flat y) (broadcastInDim S32x16384 ![0, 1] bcast_S32x1_S32x16384_0_1 (scale y)))
    shapeCasts_S32x16384_S32x1x128x128

section
variable (m : (ℓ : Loc nD τ sig) → Buf (Elt Ideal) ℓ) (c : Dev nD)

theorem out0_eq : res_main_v39 (F := Ideal) m c
    = img (pos (pix (m ((c.tc : Thread nD τ).loc main_arg0)) (m ((c.tc : Thread nD τ).loc main_arg1))
        (m ((c.tc : Thread nD τ).loc main_arg2)) (m ((c.tc : Thread nD τ).loc main_arg3)))) := by
  unfold res_main_v39; rfl

end

/-! ## The gather -/

theorem elem_word : ∀ e : Fin 64, Scalar.select (IntOp.cmpi .slt (BitVec.ofNat 32 e.val) 0#32)
    (BitVec.ofNat 32 e.val + 64#32) (BitVec.ofNat 32 e.val) = BitVec.ofNat 32 e.val := by decide

theorem elem_int : ∀ e : Fin 64, min (BitVec.ofNat 32 e.val).toInt.toNat (64 - 1) = e.val := by decide

theorem elems_at (i j : Fin 128) (e : Fin 64) : elems (ix3 i j e) = BitVec.ofNat 32 e.val := by
  refine (broadcastInDim_apply _ _ _ _ (ix3 (0 : Fin 1) (0 : Fin 1) e) ?_).trans ?_
  · intro b
    match b with
    | ⟨0, _⟩ => rfl
    | ⟨1, _⟩ => rfl
    | ⟨2, _⟩ => rfl
  · refine (broadcastInDim_apply _ _ _ _ (ix1 e) ?_).trans rfl
    intro b
    match b with
    | ⟨0, _⟩ => rfl

theorem elemIdx_at (i j : Fin 128) (e : Fin 64) : elemIdx (ix3 i j e) = BitVec.ofNat 32 e.val := by
  show Scalar.select (IntOp.cmpi .slt (elems (ix3 i j e)) 0#32) (elems (ix3 i j e) + 64#32) (elems (ix3 i j e)) = _
  rw [elems_at]; exact elem_word e

theorem cw_toInt (x : BitVec 32) : (cw x).toInt = ((cw x).toNat : ℤ) := by
  have := cw_lt x
  rw [BitVec.toInt_eq_toNat_cond, if_pos (by omega)]

theorem clipIdx_at (x1 : IVec S128x128x64 32) (y : S128x128x64.Idx) : clipIdx x1 y = cw (x1 y) := by
  show Scalar.select (IntOp.cmpi .slt (cw (x1 y)) 0#32) (cw (x1 y) + 2030#32) (cw (x1 y)) = _
  have h : IntOp.cmpi .slt (cw (x1 y)) 0#32 = 0#1 := by
    have hs : (cw (x1 y)).slt 0#32 = false := by
      rw [BitVec.slt, cw_toInt]
      have h0 : (0#32 : BitVec 32).toInt = 0 := by decide
      rw [h0]
      exact decide_eq_false (by omega)
    show BitVec.ofBool ((cw (x1 y)).slt 0#32) = 0#1
    rw [hs]; rfl
  rw [h]; exact select_zero _ _

theorem starts_at0 (x1 : IVec S128x128x64 32) (i j : Fin 128) (e : Fin 64) :
    starts x1 (ix4 i j e (0 : Fin 2)) = BitVec.ofNat 32 e.val := by
  unfold starts
  refine (concatenate_pair_apply_left (t := S128x128x64x2) (s₁ := S128x128x64x1) (s₂ := S128x128x64x1) (3 : Fin 4) _ _ _ _ rfl (ix4 i j e (0 : Fin 1)) ?_).trans ?_
  · intro b
    match b with
    | ⟨0, _⟩ => rfl
    | ⟨1, _⟩ => rfl
    | ⟨2, _⟩ => rfl
    | ⟨3, _⟩ => rfl
  refine (broadcastInDim_apply _ _ _ _ (ix3 i j e) ?_).trans (elemIdx_at i j e)
  intro b
  match b with
  | ⟨0, _⟩ => rfl
  | ⟨1, _⟩ => rfl
  | ⟨2, _⟩ => rfl

theorem starts_at1 (x1 : IVec S128x128x64 32) (i j : Fin 128) (e : Fin 64) :
    starts x1 (ix4 i j e (1 : Fin 2)) = cw (x1 (ix3 i j e)) := by
  unfold starts
  refine (concatenate_pair_apply_right (t := S128x128x64x2) (s₁ := S128x128x64x1) (s₂ := S128x128x64x1) (3 : Fin 4) _ _ _ _ rfl rfl (ix4 i j e (0 : Fin 1)) ?_ ?_).trans ?_
  · intro b hb
    match b with
    | ⟨0, _⟩ => rfl
    | ⟨1, _⟩ => rfl
    | ⟨2, _⟩ => rfl
    | ⟨3, _⟩ => exact absurd rfl hb
  · rfl
  refine (broadcastInDim_apply _ _ _ _ (ix3 i j e) ?_).trans (clipIdx_at x1 _)
  intro b
  match b with
  | ⟨0, _⟩ => rfl
  | ⟨1, _⟩ => rfl
  | ⟨2, _⟩ => rfl

theorem operand_at (x1 : IVec S128x128x64 32) (b : Fin 32) (i j : Fin 128) (e : Fin 64) :
    GatherDims.operandIdx gd (ix4 b i j e) (starts x1) = ix3 b e ⟨(cw (x1 (ix3 i j e))).toNat, cw_lt _⟩ := by
  funext a
  refine Fin.ext ?_
  show GatherDims.start gd (ix4 b i j e) (starts x1) a + GatherDims.batchCoord gd (ix4 b i j e) a + GatherDims.offCoord gd (ix4 b i j e) a = _
  rw [GatherDims.batchCoord_eq_zero _ _ _ (fun h => List.not_mem_nil h)]
  match a with
  | ⟨0, _⟩ =>
    have h0 : GatherDims.start gd (ix4 b i j e) (starts x1) (0 : Fin 3) = 0 := by
      unfold GatherDims.start
      exact dif_neg (show (0 : Fin 3) ∉ ([1, 2] : List (Fin 3)) by decide)
    have h1 : GatherDims.offCoord gd (ix4 b i j e) (0 : Fin 3) = b.val := by
      unfold GatherDims.offCoord
      rw [dif_pos ((GatherDims.mem_sKept _ _).mpr
        ⟨show (0 : Fin 3) ∉ ([1, 2] : List (Fin 3)) by decide, List.not_mem_nil⟩)]
      rfl
    refine (congrArg₂ (fun p q => p + 0 + q) h0 h1).trans ?_
    show 0 + 0 + b.val = b.val
    omega
  | ⟨1, _⟩ =>
    have h1 : GatherDims.offCoord gd (ix4 b i j e) (1 : Fin 3) = 0 :=
      GatherDims.offCoord_eq_zero _ _ _ (fun h => ((GatherDims.mem_sKept _ _).mp h).1 (show (1 : Fin 3) ∈ ([1, 2] : List (Fin 3)) by decide))
    have h0 : GatherDims.start gd (ix4 b i j e) (starts x1) (1 : Fin 3) = e.val := by
      unfold GatherDims.start
      rw [dif_pos (show (1 : Fin 3) ∈ GatherDims.startIndexMap gd from (by decide : (1 : Fin 3) ∈ ([1, 2] : List (Fin 3))))]
      have hsi : GatherDims.siIdx gd (ix4 b i j e) ⟨List.idxOf (1 : Fin 3) ([1, 2] : List (Fin 3)),
          List.idxOf_lt_length_iff.2 (by decide)⟩ = ix4 i j e (0 : Fin 2) := by
        funext q; refine Fin.ext ?_
        match q with
        | ⟨0, _⟩ => rfl
        | ⟨1, _⟩ => rfl
        | ⟨2, _⟩ => rfl
        | ⟨3, _⟩ => rfl
      exact (congrArg (fun q => min (starts x1 q).toInt.toNat (64 - 1)) hsi).trans (by rw [starts_at0]; exact elem_int e)
    refine (congrArg₂ (fun p q => p + 0 + q) h0 h1).trans ?_
    rfl
  | ⟨2, _⟩ =>
    have h1 : GatherDims.offCoord gd (ix4 b i j e) (2 : Fin 3) = 0 :=
      GatherDims.offCoord_eq_zero _ _ _ (fun h => ((GatherDims.mem_sKept _ _).mp h).1 (show (2 : Fin 3) ∈ ([1, 2] : List (Fin 3)) by decide))
    have h0 : GatherDims.start gd (ix4 b i j e) (starts x1) (2 : Fin 3) = (cw (x1 (ix3 i j e))).toNat := by
      unfold GatherDims.start
      rw [dif_pos (show (2 : Fin 3) ∈ GatherDims.startIndexMap gd from (by decide : (2 : Fin 3) ∈ ([1, 2] : List (Fin 3))))]
      have hsi : GatherDims.siIdx gd (ix4 b i j e) ⟨List.idxOf (2 : Fin 3) ([1, 2] : List (Fin 3)),
          List.idxOf_lt_length_iff.2 (by decide)⟩ = ix4 i j e (1 : Fin 2) := by
        funext q; refine Fin.ext ?_
        match q with
        | ⟨0, _⟩ => rfl
        | ⟨1, _⟩ => rfl
        | ⟨2, _⟩ => rfl
        | ⟨3, _⟩ => rfl
      refine (congrArg (fun q => min (starts x1 q).toInt.toNat (2030 - 1)) hsi).trans ?_
      have := cw_lt (x1 (ix3 i j e))
      rw [starts_at1, cw_toInt, Int.toNat_natCast]
      omega
    refine (congrArg₂ (fun p q => p + 0 + q) h0 h1).trans ?_
    rfl

theorem picked_at (x0 : FVec Ideal S32x1x64x2030 .f32) (x1 : IVec S128x128x64 32) (b : Fin 32) (i j : Fin 128) (e : Fin 64) :
    picked x0 x1 (ix4 b i j e) = x0 (ix4 b (0 : Fin 1) e ⟨(cw (x1 (ix3 i j e))).toNat, cw_lt _⟩) := by
  unfold picked Host.gather
  rw [operand_at]
  refine shapeCast_apply _ _ _ (ix4 b (0 : Fin 1) e ⟨(cw (x1 (ix3 i j e))).toNat, cw_lt _⟩) ?_
  rw [Shape.rowMajor_val_three, Shape.rowMajor_val_four]
  show ((b.val * 1 + 0) * 64 + e.val) * 2030 + (cw (x1 (ix3 i j e))).toNat = (b.val * 64 + e.val) * 2030 + (cw (x1 (ix3 i j e))).toNat
  omega

/-! ## The weighted sample: the mask times the weight is the masked weight -/

theorem mask_mul (s w : EReal) (k : BitVec 1) :
    (FloatOps.mulf (F := Ideal) (φ := .f32) (FloatOps.mulf (F := Ideal) (φ := .f32) s (FloatOps.uitofp .f32 k)) w)
      = FloatOps.mulf (F := Ideal) (φ := .f32) s (Scalar.select k w (FloatOps.ofBits (F := Ideal) .f32 0x00000000#32)) := by
  by_cases hk : k = 1#1
  · subst hk
    rw [select_one]
    show s * (((1#1 : BitVec 1).toNat : ℝ) : EReal) * w = s * w
    have : (1#1 : BitVec 1).toNat = 1 := by decide
    rw [this, Nat.cast_one, EReal.coe_one, mul_one]
  · have h0 := eq_zero_of_ne_one hk
    subst h0
    rw [select_zero]
    show s * (((0#1 : BitVec 1).toNat : ℝ) : EReal) * w = s * Ideal.ofBits .f32 0x00000000#32
    have : (0#1 : BitVec 1).toNat = 0 := by decide
    rw [this, Nat.cast_zero, EReal.coe_zero, mul_zero, zero_mul, Ideal.ofBits_zero_f32, mul_zero]

theorem pix_at (x0 : FVec Ideal S32x1x64x2030 .f32) (x1 : IVec S128x128x64 32) (x2 : FVec Ideal S128x128x64 .f32) (x3 : IVec S128x128x64 1)
    (b : Fin 32) (i j : Fin 128) (e : Fin 64) :
    pix x0 x1 x2 x3 (ix4 b i j e)
      = FloatOps.mulf (F := Ideal) (φ := .f32) (x0 (ix4 b (0 : Fin 1) e ⟨(cw (x1 (ix3 i j e))).toNat, cw_lt _⟩))
          (Scalar.select (x3 (ix3 i j e)) (x2 (ix3 i j e)) (FloatOps.ofBits (F := Ideal) .f32 0x00000000#32)) := by
  have hm : broadcastInDim S32x128x128x64 ![0, 1, 2, 3] bcast_S1x128x128x64_S32x128x128x64_0_1_2_3
        (uitofp (F := Ideal) .f32 (broadcastInDim S1x128x128x64 ![1, 2, 3] bcast_S128x128x64_S1x128x128x64_1_2_3 x3)) (ix4 b i j e)
      = FloatOps.uitofp .f32 (x3 (ix3 i j e)) := by
    refine (broadcastInDim_apply _ _ _ _ (ix4 (0 : Fin 1) i j e) ?_).trans ?_
    · intro q
      match q with
      | ⟨0, _⟩ => rfl
      | ⟨1, _⟩ => rfl
      | ⟨2, _⟩ => rfl
      | ⟨3, _⟩ => rfl
    refine congrArg (FloatOps.uitofp (F := Ideal) .f32) (broadcastInDim_apply _ _ _ _ (ix3 i j e) ?_)
    intro q
    match q with
    | ⟨0, _⟩ => rfl
    | ⟨1, _⟩ => rfl
    | ⟨2, _⟩ => rfl
  have hw : broadcastInDim S32x128x128x64 ![0, 1, 2, 3] bcast_S1x128x128x64_S32x128x128x64_0_1_2_3
        (broadcastInDim S1x128x128x64 ![1, 2, 3] bcast_S128x128x64_S1x128x128x64_1_2_3 x2) (ix4 b i j e)
      = x2 (ix3 i j e) := by
    refine (broadcastInDim_apply _ _ _ _ (ix4 (0 : Fin 1) i j e) ?_).trans ?_
    · intro q
      match q with
      | ⟨0, _⟩ => rfl
      | ⟨1, _⟩ => rfl
      | ⟨2, _⟩ => rfl
      | ⟨3, _⟩ => rfl
    refine broadcastInDim_apply _ _ _ _ (ix3 i j e) ?_
    intro q
    match q with
    | ⟨0, _⟩ => rfl
    | ⟨1, _⟩ => rfl
    | ⟨2, _⟩ => rfl
  refine Eq.trans ?_ (mask_mul _ _ _)
  exact congrArg₂ (FloatOps.mulf (F := Ideal) (φ := .f32))
    (congrArg₂ (FloatOps.mulf (F := Ideal) (φ := .f32)) (picked_at x0 x1 b i j e) hm) hw

/-! ## The sum over the elements -/

theorem drop3 : S32x128x128x64.Reduces [3] S32x128x128 := by decide

theorem pos_at (p : FVec Ideal S32x128x128x64 .f32) (b : Fin 32) (i j : Fin 128) :
    pos p (ix4 b (0 : Fin 1) i j) = max (∑ e : Fin 64, p (ix4 b i j e)) (0 : EReal) := by
  have hs : broadcastInDim S32x1x128x128 ![0, 2, 3] bcast_S32x128x128_S32x1x128x128_0_2_3
      (Host.reduceAdd p (constant S_ .f32 0x00000000#32) reducesTo_S32x128x128x64_S32x128x128_d3 h_S_) (ix4 b (0 : Fin 1) i j)
      = ∑ e : Fin 64, p (ix4 b i j e) := by
    refine (broadcastInDim_apply _ _ _ _ (ix3 b i j) ?_).trans ?_
    · intro q
      match q with
      | ⟨0, _⟩ => rfl
      | ⟨1, _⟩ => rfl
      | ⟨2, _⟩ => rfl
    refine (Ideal.hostReduceAdd_single reducesTo_S32x128x128x64_S32x128x128_d3 drop3 p (Ideal.ofBits .f32 0x00000000#32) (ix3 b i j)).trans ?_
    rw [Ideal.ofBits_zero_f32, zero_add]
    refine Finset.sum_congr rfl fun e _ => congrArg p ?_
    funext q
    match q with
    | ⟨0, _⟩ => rfl
    | ⟨1, _⟩ => rfl
    | ⟨2, _⟩ => rfl
    | ⟨3, _⟩ => rfl
  show max (Ideal.ofBits .f32 0x00000000#32 : EReal) _ = _
  rw [Ideal.ofBits_zero_f32, max_comm]
  exact congrArg (fun v : EReal => max v 0) hs

end Cert.Proof.Ref

end
-- ==== Proof.Algebraic.lean ====
/-
  The program and the reference compute one function of the arguments, at exact arithmetic.
-/
module

public import proofs.«01_k».proof.Defs
public import proofs.«01_k».proof.Proof.Frames
public import proofs.«01_k».proof.Proof.Reference

@[expose] public section

set_option maxRecDepth 16384

noncomputable section

namespace Cert.Proof

open Cert.KernelIdeal Cert.KernelIdeal.Gen Cert.Proof.Tile
open Idealize.ShloMosaic Idealize.ShloMosaic.TcCoe Idealize.ShloMosaic.StableHlo Idealize.ShloMosaic.ValueIdx
open Idealize.SL.Sem

/-! ## Two folds of the maximum over sets that hold the same values -/

theorem fold_max_le_of {α β : Type} (s : Finset α) (t : Finset β) (f : α → EReal) (g : β → EReal) (b : EReal)
    (h : ∀ x ∈ s, ∃ y ∈ t, f x = g y) : s.fold max b f ≤ t.fold max b g := by
  have ht := (Finset.fold_max_le (f := g) (b := b) (s := t) (t.fold max b g)).1 le_rfl
  refine (Finset.fold_max_le _).2 ⟨ht.1, fun x hx => ?_⟩
  obtain ⟨y, hy, e⟩ := h x hx
  exact e ▸ ht.2 y hy

/-! ## The largest value of an image, by the dense pass and by the reference -/

theorem flat_at (y : FVec Ideal S32x1x128x128 .f32) (b : Fin 32) (i j : Fin 128) (h : i.val * 128 + j.val < 16384) :
    Ref.flat y (ix2 b ⟨i.val * 128 + j.val, h⟩) = y (ix4 b (0 : Fin 1) i j) := by
  refine shapeCast_apply _ _ _ (ix4 b (0 : Fin 1) i j) ?_
  rw [Shape.rowMajor_val_four, Shape.rowMajor_val_two]
  show ((b.val * 1 + 0) * 128 + i.val) * 128 + j.val = b.val * 16384 + (i.val * 128 + j.val)
  omega

/-- The dense pass's maximum over the three inner axes. -/
def ktops (y : FVec Ideal S32x1x128x128 .f32) : FVec Ideal S32 .f32 :=
  multiReduction .maximumf [1, 2, 3] S32 y 0xFF800000#32 reduces_S32x1x128x128_S32 (.inl rfl) rfl

theorem drop_kernel (i : S32x1x128x128.Idx) : reduces_S32x1x128x128_S32.drop i = ix1 (i 0) := by
  funext a
  match a with
  | ⟨0, _⟩ => exact Fin.ext (Shape.Reduces.drop_apply_val_of_eq reduces_S32x1x128x128_S32 i 0 0)

theorem drop_reference (i : Cert.ReferenceIdeal.S32x16384.Idx) :
    Cert.ReferenceIdeal.Gen.reducesTo_S32x16384_S32_d1.drop i = ix1 (i 0) := by
  funext a
  match a with
  | ⟨0, _⟩ => exact Fin.ext (Shape.ReducesTo.drop_apply_val_of_eq Cert.ReferenceIdeal.Gen.reducesTo_S32x16384_S32_d1 i 0 0)

theorem tops_eq (y : FVec Ideal S32x1x128x128 .f32) : ktops y = Ref.tops y := by
  funext k
  have hk : ktops y k = (Finset.univ.filter fun i => reduces_S32x1x128x128_S32.drop i = k).fold max
      (Ideal.ofBits .f32 0xFF800000#32 : EReal) y :=
    multiReduction_maximumf_eq_fold y _ reduces_S32x1x128x128_S32 (.inl rfl) rfl k
  have hr : Ref.tops y k = (Finset.univ.filter fun i => Cert.ReferenceIdeal.Gen.reducesTo_S32x16384_S32_d1.drop i = k).fold max
      (Ideal.ofBits .f32 0xFF800000#32 : EReal) (Ref.flat y) :=
    Host.reduce_eq_fold (FloatOps.maximumf (F := Ideal) (φ := .f32)) (Ref.flat y) _
      Cert.ReferenceIdeal.Gen.reducesTo_S32x16384_S32_d1 Cert.ReferenceIdeal.Gen.h_S_ k
  rw [hk, hr]
  refine le_antisymm (fold_max_le_of _ _ _ _ _ ?_) (fold_max_le_of _ _ _ _ _ ?_)
  · intro x hx
    obtain ⟨b, z, i, j, rfl⟩ : ∃ (b : Fin 32) (z : Fin 1) (i j : Fin 128), x = ix4 b z i j := ⟨_, _, _, _, eq_ix4 x⟩
    obtain rfl : z = 0 := Subsingleton.elim _ _
    have hb := (Finset.mem_filter.1 hx).2
    rw [drop_kernel] at hb
    have h : i.val * 128 + j.val < 16384 := by omega
    refine ⟨ix2 b ⟨i.val * 128 + j.val, h⟩, Finset.mem_filter.2 ⟨Finset.mem_univ _, ?_⟩, (flat_at y b i j h).symm⟩
    rw [drop_reference]; exact hb
  · intro x hx
    obtain ⟨b, p, rfl⟩ : ∃ (b : Fin 32) (p : Fin 16384), x = ix2 b p := ⟨_, _, eq_ix2 x⟩
    have hb := (Finset.mem_filter.1 hx).2
    rw [drop_reference] at hb
    have hp := p.isLt
    have h : (⟨p.val / 128, by omega⟩ : Fin 128).val * 128 + (⟨p.val % 128, by omega⟩ : Fin 128).val < 16384 := by
      show p.val / 128 * 128 + p.val % 128 < 16384; omega
    have e : p = ⟨(⟨p.val / 128, by omega⟩ : Fin 128).val * 128 + (⟨p.val % 128, by omega⟩ : Fin 128).val, h⟩ :=
      Fin.ext (by show p.val = p.val / 128 * 128 + p.val % 128; omega)
    refine ⟨ix4 b (0 : Fin 1) ⟨p.val / 128, by omega⟩ ⟨p.val % 128, by omega⟩, Finset.mem_filter.2 ⟨Finset.mem_univ _, ?_⟩, ?_⟩
    · rw [drop_kernel]; exact hb
    · exact (congrArg (fun q => Ref.flat y (ix2 b q)) e).trans (flat_at y b _ _ h)

/-! ## The scaled image -/

/-- The scale of one image, from its largest value: that value, or `u` where it does not exceed `l`. -/
def scl (l u t : Ideal .f32) : Ideal .f32 := Scalar.select (FloatOps.cmpf (F := Ideal) (φ := .f32) .ogt t l) t u

/-- The scale with the program's two constants. -/
def sc1 (t : Ideal .f32) : Ideal .f32 := scl (FloatOps.ofBits .f32 0x322BCC77#32) (FloatOps.ofBits .f32 0x3F800000#32) t

theorem img_at (y : FVec Ideal S32x1x128x128 .f32) (b : Fin 32) (i j : Fin 128) :
    Ref.img y (ix4 b (0 : Fin 1) i j) = Ideal.div (y (ix4 b (0 : Fin 1) i j)) (sc1 (Ref.tops y (ix1 b))) := by
  have h : i.val * 128 + j.val < 16384 := by omega
  have ht : Ref.top1 y (ix2 b (0 : Fin 1)) = Ref.tops y (ix1 b) := by
    refine broadcastInDim_apply _ _ _ _ (ix1 b) ?_
    intro a
    match a with
    | ⟨0, _⟩ => rfl
  refine (shapeCast_apply _ _ _ (ix2 b (⟨i.val * 128 + j.val, h⟩ : Fin 16384)) ?_).trans ?_
  · rw [Shape.rowMajor_val_four, Shape.rowMajor_val_two]
    show b.val * 16384 + (i.val * 128 + j.val) = ((b.val * 1 + 0) * 128 + i.val) * 128 + j.val
    omega
  rw [hostDivf_apply, flat_at]
  refine congrArg (Ideal.div (y (ix4 b (0 : Fin 1) i j))) ?_
  refine (broadcastInDim_apply _ _ _ _ (ix2 b (0 : Fin 1)) ?_).trans ?_
  · intro a
    match a with
    | ⟨0, _⟩ => rfl
    | ⟨1, _⟩ => rfl
  · unfold Ref.scale sc1
    show scl _ _ (Ref.top1 y (ix2 b (0 : Fin 1))) = _
    rw [ht]
    rfl

/-- The positive part, as the dense pass takes it. -/
def kpos (s : FVec Ideal S32x1x128x128 .f32) : FVec Ideal S32x1x128x128 .f32 :=
  maximumf (shapeCast S32x1x128x128 s shapeCasts_S32x1x128x128_S32x1x128x128)
    (broadcast S32x1x128x128 (Scalar.ofBits (F := Ideal) .f32 0x00000000#32))

theorem pay_at (s : FVec Ideal S32x1x128x128 .f32) (b : Fin 32) (i j : Fin 128) :
    k2_pay1 (F := Ideal) s (ix4 b (0 : Fin 1) i j)
      = Ideal.div (kpos s (ix4 b (0 : Fin 1) i j)) (sc1 (ktops (kpos s) (ix1 b))) := by
  unfold k2_pay1
  dsimp only
  rw [divf_apply]
  show Ideal.div (kpos s (ix4 b (0 : Fin 1) i j)) _ = _
  refine congrArg (Ideal.div (kpos s (ix4 b (0 : Fin 1) i j))) ?_
  refine (broadcastTo_apply _ _ _ (ix4 b (0 : Fin 1) (0 : Fin 1) (0 : Fin 1)) ?_).trans ?_
  · intro a
    match a with
    | ⟨0, _⟩ => rfl
    | ⟨1, _⟩ => rfl
    | ⟨2, _⟩ => rfl
    | ⟨3, _⟩ => rfl
  · have hv : shapeCast S32x1x1x1 (ktops (kpos s)) shapeCasts_S32_S32x1x1x1 (ix4 b (0 : Fin 1) (0 : Fin 1) (0 : Fin 1))
        = ktops (kpos s) (ix1 b) := by
      refine shapeCast_apply _ _ _ (ix1 b) ?_
      rw [Shape.rowMajor_val_four, Shape.rowMajor_val_one]
      show b.val = ((b.val * 1 + 0) * 1 + 0) * 1 + 0
      omega
    unfold sc1
    show scl _ _ (shapeCast S32x1x1x1 (ktops (kpos s)) shapeCasts_S32_S32x1x1x1 (ix4 b (0 : Fin 1) (0 : Fin 1) (0 : Fin 1))) = _
    rw [hv]
    rfl

/-! ## The sum over the elements -/

section
variable (m : (ℓ : Loc nD τ sig) → Buf (Elt Ideal) ℓ) (d : Dev nD)

theorem run_sum (b : Fin 32) (i j : Fin 128) : ∀ (n : ℕ) (h : n < 64),
    run m d b i j n h = (∑ e : Fin (n + 1), wsamp m d b ⟨e.val, by omega⟩ i j : EReal)
  | 0, h => by rw [Fin.sum_univ_one]; rfl
  | n + 1, h => by
    rw [Fin.sum_univ_castSucc]
    exact congrArg (fun v : EReal => v + wsamp m d b ⟨n + 1, h⟩ i j) (run_sum b i j n (Nat.lt_of_succ_lt h))

/-- The reference's weighted samples on the program's arguments. -/
abbrev rpix : FVec Ideal Cert.ReferenceIdeal.S32x128x128x64 .f32 := Ref.pix (a0 m d) (a1 m d) (a2 m d) (a3 m d)

theorem rpix_at (b : Fin 32) (i j : Fin 128) (e : Fin 64) : rpix m d (ix4 b i j e) = wsamp m d b e i j :=
  Ref.pix_at _ _ _ _ b i j e

theorem kpos_eq : kpos (sums m d) = Ref.pos (rpix m d) := by
  funext y
  obtain ⟨b, z, i, j, rfl⟩ : ∃ (b : Fin 32) (z : Fin 1) (i j : Fin 128), y = ix4 b z i j := ⟨_, _, _, _, eq_ix4 y⟩
  obtain rfl : z = 0 := Subsingleton.elim _ _
  refine Eq.trans ?_ (Ref.pos_at _ b i j).symm
  have hs : (sums m d (ix4 b (0 : Fin 1) i j) : EReal) = ∑ e : Fin 64, rpix m d (ix4 b i j e) :=
    (run_sum m d b i j 63 (by decide)).trans (Finset.sum_congr rfl fun e _ => (rpix_at m d b i j e).symm)
  unfold kpos
  rw [shapeCast_self]
  show max (sums m d (ix4 b (0 : Fin 1) i j) : EReal) (Ideal.ofBits .f32 0x00000000#32) = _
  rw [Ideal.ofBits_zero_f32, hs]

theorem image_ref : H5 m d main_v19 = Ref.img (Ref.pos (rpix m d)) := by
  rw [image_eq]
  funext y
  obtain ⟨b, z, i, j, rfl⟩ : ∃ (b : Fin 32) (z : Fin 1) (i j : Fin 128), y = ix4 b z i j := ⟨_, _, _, _, eq_ix4 y⟩
  obtain rfl : z = 0 := Subsingleton.elim _ _
  rw [pay_at, kpos_eq, tops_eq]
  exact (img_at _ b i j).symm

theorem pixels_ref : H5 m d main_v18_0
    = transpose Cert.ReferenceIdeal.S32x64x128x128 [0, 3, 1, 2] (rpix m d)
        Cert.ReferenceIdeal.Gen.transposes_S32x128x128x64_S32x64x128x128_0_3_1_2 := by
  funext y
  obtain ⟨b, e, i, j, rfl⟩ : ∃ (b : Fin 32) (e : Fin 64) (i j : Fin 128), y = ix4 b e i j := ⟨_, _, _, _, eq_ix4 y⟩
  rw [pixel_at]
  refine Eq.trans (rpix_at m d b i j e).symm (transpose_apply _ _ _ _ (ix4 b i j e) ?_).symm
  intro a
  match a with
  | ⟨0, _⟩ => rfl
  | ⟨1, _⟩ => rfl
  | ⟨2, _⟩ => rfl
  | ⟨3, _⟩ => rfl

end

/-! ## The claim -/

theorem algebraic : Cert.algebraic_KernelIdeal_ReferenceIdeal := by
  intro m ρ m' ρ' _ hargs
  refine ⟨fun c => H5 m c main_v19, fun c => H5 m c main_v18_0, ?_, ?_⟩
  · exact (θ_run Cert.KernelIdeal.defs _ _).mono
      (fun r h c => ⟨h.1 c main_v19 (by decide), h.1 c main_v18_0 (by decide), kept_args m r h c⟩) (run_program m ρ)
  · refine (θ_run Cert.ReferenceIdeal.defs _ _).mono (fun r h c => ?_) (Cert.ReferenceIdeal.Value.run (F := Ideal) m' ρ')
    obtain ⟨h0, h1, h2⟩ := h c
    obtain ⟨e0, e1, e2, e3⟩ := hargs c
    refine ⟨h0.trans ?_, h1.trans ?_, h2⟩
    · refine (Ref.out0_eq m' c).trans ?_
      rw [e0, e1, e2, e3]
      exact (image_ref m c).symm
    · rw [e0, e1, e2, e3]
      exact (pixels_ref m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
